-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.bf16_pair.Statement Cert.Kernel2Ideal.S1024x256 Cert.Kernel2Ideal.S512x256
  ∧ IdealRules.bf16_pack.Statement Cert.Kernel2Ideal.S512x256

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)) (v4 : (c : Dev Cert.Kernel4Ideal.nD) → Buf (Elt Ideal) ((c.tc : Thread Cert.Kernel4Ideal.nD Cert.Kernel4Ideal.τ).loc Cert.Kernel4Ideal.main_v17_4)) (v5 : (c : Dev Cert.Kernel4Ideal.nD) → Buf (Elt Ideal) ((c.tc : Thread Cert.Kernel4Ideal.nD Cert.Kernel4Ideal.τ).loc Cert.Kernel4Ideal.main_v17_5)) (v6 : (c : Dev Cert.Kernel4Ideal.nD) → Buf (Elt Ideal) ((c.tc : Thread Cert.Kernel4Ideal.nD Cert.Kernel4Ideal.τ).loc Cert.Kernel4Ideal.main_v17_6)) (v7 : (c : Dev Cert.Kernel4Ideal.nD) → Buf (Elt Ideal) ((c.tc : Thread Cert.Kernel4Ideal.nD Cert.Kernel4Ideal.τ).loc Cert.Kernel4Ideal.main_v17_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_v17_4) = v4 c
          ∧ r.2.mem ((c.tc : Thread Cert.Kernel4Ideal.nD Cert.Kernel4Ideal.τ).loc Cert.Kernel4Ideal.main_v17_5) = v5 c
          ∧ r.2.mem ((c.tc : Thread Cert.Kernel4Ideal.nD Cert.Kernel4Ideal.τ).loc Cert.Kernel4Ideal.main_v17_6) = v6 c
          ∧ r.2.mem ((c.tc : Thread Cert.Kernel4Ideal.nD Cert.Kernel4Ideal.τ).loc Cert.Kernel4Ideal.main_v17_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v48) = v2 c
          ∧ r.2.mem ((c.tc : Thread Cert.Reference4Ideal.nD Cert.Reference4Ideal.τ).loc Cert.Reference4Ideal.main_v49) = v3 c
          ∧ r.2.mem ((c.tc : Thread Cert.Reference4Ideal.nD Cert.Reference4Ideal.τ).loc Cert.Reference4Ideal.main_v50) = v4 c
          ∧ r.2.mem ((c.tc : Thread Cert.Reference4Ideal.nD Cert.Reference4Ideal.τ).loc Cert.Reference4Ideal.main_v66) = v5 c
          ∧ r.2.mem ((c.tc : Thread Cert.Reference4Ideal.nD Cert.Reference4Ideal.τ).loc Cert.Reference4Ideal.main_v82) = v6 c
          ∧ r.2.mem ((c.tc : Thread Cert.Reference4Ideal.nD Cert.Reference4Ideal.τ).loc Cert.Reference4Ideal.main_v83) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_logits : Cert.Pre_finite_logits.Facts) (hPre_experts_named : Cert.Pre_experts_named.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_named.lean ====
abbrev S77 : Shape := ⟨1, ![77]⟩
abbrev S1 : Shape := ⟨1, ![1]⟩
abbrev S39424x256 : Shape := ⟨2, ![39424, 256]⟩
abbrev S39424x128 : Shape := ⟨2, ![39424, 128]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S77 : S_.BroadcastsInDim S77 (![] : Fin 0 → Fin S77.rank)
  reducesTo_S77_S_d0 : S77.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S77 32) (main_arg1 : IVec S1 32) (main_arg2 : IVec S39424x256 32) (main_arg3 : IVec S39424x256 32) (main_arg4 : FVec F S39424x128 .f32) (main_arg5 : FVec F S8x1024x3584 .bf16) (main_arg6 : FVec F S8x1024x3584 .bf16) (main_arg7 : FVec F S8x3584x1024 .bf16) : IVec S_ 1 :=
  let main_c : IVec S_ 32 := constantI S_ 32 0#32
  let main_v0 : IVec S77 32 := broadcastInDim S77 ![] bcast_S_S77 main_c
  let main_v1 : IVec S77 1 := cmpi .sge main_arg0 main_v0
  let main_c_0 : IVec S_ 32 := constantI S_ 32 8#32
  let main_v2 : IVec S77 32 := broadcastInDim S77 ![] bcast_S_S77 main_c_0
  let main_v3 : IVec S77 1 := cmpi .slt main_arg0 main_v2
  let main_v4 : IVec S77 1 := andi main_v1 main_v3
  let main_c_1 : IVec S_ 1 := constantI S_ 1 1#1
  let main_v5 : IVec S_ 1 := (fun x v => Host.reduce IntOp.andi x v reducesTo_S77_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_finite_logits.lean ====
abbrev S17408x256 : Shape := ⟨2, ![17408, 256]⟩
abbrev S17408x128 : Shape := ⟨2, ![17408, 128]⟩
abbrev S4 : Shape := ⟨1, ![4]⟩
abbrev S_ : Shape := ⟨0, ![]⟩

class Facts : Prop where
  bcast_S_S17408x256 : S_.BroadcastsInDim S17408x256 (![] : Fin 0 → Fin S17408x256.rank)
  reducesTo_S17408x256_S_d0_1 : S17408x256.ReducesTo [0, 1] S_
  h_S_ : 0 < S_.numel
  bcast_S_S17408x128 : S_.BroadcastsInDim S17408x128 (![] : Fin 0 → Fin S17408x128.rank)
  reducesTo_S17408x128_S_d0_1 : S17408x128.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S17408x256 .f32) (main_arg1 : FVec F S17408x128 .f32) (main_arg2 : FVec F S17408x128 .f32) (main_arg3 : FVec F S4 .f32) : IVec S_ 1 :=
  let main_v0 : FVec F S17408x256 .f32 := Host.absf main_arg0
  let main_cst : FVec F S_ .f32 := constant S_ .f32 0x7F800000#32
  let main_v1 : FVec F S17408x256 .f32 := broadcastInDim S17408x256 ![] bcast_S_S17408x256 main_cst
  let main_v2 : IVec S17408x256 1 := cmpf .olt main_v0 main_v1
  let main_c : IVec S_ 1 := constantI S_ 1 1#1
  let main_v3 : IVec S_ 1 := (fun x v => Host.reduce IntOp.andi x v reducesTo_S17408x256_S_d0_1 h_S_) main_v2 main_c
  let main_v4 : FVec F S17408x128 .f32 := Host.absf main_arg1
  let main_cst_0 : FVec F S_ .f32 := constant S_ .f32 0x7F800000#32
  let main_v5 : FVec F S17408x128 .f32 := broadcastInDim S17408x128 ![] bcast_S_S17408x128 main_cst_0
  let main_v6 : IVec S17408x128 1 := cmpf .olt main_v4 main_v5
  let main_c_1 : IVec S_ 1 := constantI S_ 1 1#1
  let main_v7 : IVec S_ 1 := (fun x v => Host.reduce IntOp.andi x v reducesTo_S17408x128_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S17408x256 : Shape := ⟨2, ![17408, 256]⟩
abbrev S17408x128 : Shape := ⟨2, ![17408, 128]⟩
abbrev S4 : Shape := ⟨1, ![4]⟩
abbrev S4x64 : Shape := ⟨2, ![4, 64]⟩
abbrev S256 : Shape := ⟨1, ![256]⟩
abbrev S256x1 : Shape := ⟨2, ![256, 1]⟩
abbrev S16384x256 : Shape := ⟨2, ![16384, 256]⟩
abbrev S1024x256 : Shape := ⟨2, ![1024, 256]⟩
abbrev S1024x128 : Shape := ⟨2, ![1024, 128]⟩
abbrev S1x2048x128 : Shape := ⟨3, ![1, 2048, 128]⟩
abbrev S1x1024x128 : Shape := ⟨3, ![1, 1024, 128]⟩
abbrev S64x128 : Shape := ⟨2, ![64, 128]⟩
abbrev S64x256 : Shape := ⟨2, ![64, 256]⟩
abbrev S256x128 : Shape := ⟨2, ![256, 128]⟩
abbrev S1x192x128 : Shape := ⟨3, ![1, 192, 128]⟩
abbrev S192x128 : Shape := ⟨2, ![192, 128]⟩
abbrev S256x192 : Shape := ⟨2, ![256, 192]⟩

abbrev nBuf : Space → Nat
  | .hbm => 8
  | .vmem => 15
  | .smem => 0
  | _ => 0

abbrev bufTy : (tb : Table) → Fin (tcTables nBuf tb) → BufTy
  | .hbm, ⟨0, _⟩ => ⟨S17408x256, .f32⟩
  | .hbm, ⟨1, _⟩ => ⟨S17408x128, .f32⟩
  | .hbm, ⟨2, _⟩ => ⟨S17408x128, .f32⟩
  | .hbm, ⟨3, _⟩ => ⟨S4, .f32⟩
  | .hbm, ⟨4, _⟩ => ⟨S4x64, .f32⟩
  | .hbm, ⟨5, _⟩ => ⟨S256, .f32⟩
  | .hbm, ⟨6, _⟩ => ⟨S256x1, .f32⟩
  | .hbm, ⟨7, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x1, .f32⟩
  | .local _ .vmem, ⟨11, _⟩ => ⟨S1024x256, .f32⟩
  | .local _ .vmem, ⟨12, _⟩ => ⟨S1024x256, .f32⟩
  | .local _ .vmem, ⟨13, _⟩ => ⟨S1x2048x128, .bf16⟩
  | .local _ .vmem, ⟨14, _⟩ => ⟨S1x2048x128, .bf16⟩
  | _, _ => ⟨S17408x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.subi arg1 c1_i32
  let c0_i32_0 : BitVec 32 := 0#32
  let v3 : BitVec 32 := Scalar.maxsi v2 c0_i32_0
  let v4 : BitVec 32 := Scalar.addi v1 v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.subi arg1 c1_i32
  let c0_i32_0 : BitVec 32 := 0#32
  let v3 : BitVec 32 := Scalar.maxsi v2 c0_i32_0
  let v4 : BitVec 32 := Scalar.addi v1 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S17408x256 : Shape := ⟨2, ![17408, 256]⟩
abbrev S17408x128 : Shape := ⟨2, ![17408, 128]⟩
abbrev S4 : Shape := ⟨1, ![4]⟩
abbrev S16384x256 : Shape := ⟨2, ![16384, 256]⟩
abbrev S2x8192x2x2x64 : Shape := ⟨5, ![2, 8192, 2, 2, 64]⟩
abbrev S16384x128 : Shape := ⟨2, ![16384, 128]⟩
abbrev S2x8192x2x64 : Shape := ⟨4, ![2, 8192, 2, 64]⟩
abbrev S2x2 : Shape := ⟨2, ![2, 2]⟩
abbrev S2x128x64x2x2x64 : Shape := ⟨6, ![2, 128, 64, 2, 2, 64]⟩
abbrev S2x128x64x2x64 : Shape := ⟨5, ![2, 128, 64, 2, 64]⟩
abbrev S_ : Shape := ⟨0, ![]⟩
abbrev S2x130x64x2x64 : Shape := ⟨5, ![2, 130, 64, 2, 64]⟩
abbrev S2x128x1x64x2x64 : Shape := ⟨6, ![2, 128, 1, 64, 2, 64]⟩
abbrev S2x128x3x64x2x64 : Shape := ⟨6, ![2, 128, 3, 64, 2, 64]⟩
abbrev S2x128x192x2x64 : Shape := ⟨5, ![2, 128, 192, 2, 64]⟩
abbrev S2x128x2x192x64x2 : Shape := ⟨6, ![2, 128, 2, 192, 64, 2]⟩
abbrev S2x128x2x2x64x192 : Shape := ⟨6, ![2, 128, 2, 2, 64, 192]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S1x128x1x1x1x192 : Shape := ⟨6, ![1, 128, 1, 1, 1, 192]⟩
abbrev S1x1x2x2x1x1 : Shape := ⟨6, ![1, 1, 2, 2, 1, 1]⟩
abbrev S2x128x2x2x64 : Shape := ⟨5, ![2, 128, 2, 2, 64]⟩
abbrev S2x128x2x2x64x1 : Shape := ⟨6, ![2, 128, 2, 2, 64, 1]⟩
abbrev S2x128x2x64x2x64 : Shape := ⟨6, ![2, 128, 2, 64, 2, 64]⟩

abbrev nBuf : Space → Nat
  | .hbm => 84
  | .vmem => 0
  | .smem => 0
  | _ => 0

abbrev bufTy : (tb : Table) → Fin (tcTables nBuf tb) → BufTy
  | .hbm, ⟨0, _⟩ => ⟨S17408x256, .f32⟩
  | .hbm, ⟨1, _⟩ => ⟨S17408x128, .f32⟩
  | .hbm, ⟨2, _⟩ => ⟨S17408x128, .f32⟩
  | .hbm, ⟨3, _⟩ => ⟨S4, .f32⟩
  | .hbm, ⟨4, _⟩ => ⟨S16384x256, .f32⟩
  | .hbm, ⟨5, _⟩ => ⟨S2x8192x2x2x64, .f32⟩
  | .hbm, ⟨6, _⟩ => ⟨S16384x128, .f32⟩
  | .hbm, ⟨7, _⟩ => ⟨S2x8192x2x64, .f32⟩
  | .hbm, ⟨8, _⟩ => ⟨S16384x128, .f32⟩
  | .hbm, ⟨9, _⟩ => ⟨S2x8192x2x64, .f32⟩
  | .hbm, ⟨10, _⟩ => ⟨S2x2, .f32⟩
  | .hbm, ⟨11, _⟩ => ⟨S2x128x64x2x2x64, .f32⟩
  | .hbm, ⟨12, _⟩ => ⟨S2x128x64x2x64, .f32⟩
  | .hbm, ⟨13, _⟩ => ⟨S_, .i32⟩
  | .hbm, ⟨14, _⟩ => ⟨S_, .f32⟩
  | .hbm, ⟨15, _⟩ => ⟨S2x130x64x2x64, .f32⟩
  | .hbm, ⟨16, _⟩ => ⟨S2x128x64x2x64, .f32⟩
  | .hbm, ⟨17, _⟩ => ⟨S2x128x64x2x64, .f32⟩
  | .hbm, ⟨18, _⟩ => ⟨S2x128x64x2x64, .f32⟩
  | .hbm, ⟨19, _⟩ => ⟨S2x128x1x64x2x64, .f32⟩
  | .hbm, ⟨20, _⟩ => ⟨S2x128x1x64x2x64, .f32⟩
  | .hbm, ⟨21, _⟩ => ⟨S2x128x1x64x2x64, .f32⟩
  | .hbm, ⟨22, _⟩ => ⟨S2x128x3x64x2x64, .f32⟩
  | .hbm, ⟨23, _⟩ => ⟨S2x128x192x2x64, .f32⟩
  | .hbm, ⟨24, _⟩ => ⟨S2x128x64x2x64, .f32⟩
  | .hbm, ⟨25, _⟩ => ⟨S_, .i32⟩
  | .hbm, ⟨26, _⟩ => ⟨S_, .f32⟩
  | .hbm, ⟨27, _⟩ => ⟨S2x130x64x2x64, .f32⟩
  | .hbm, ⟨28, _⟩ => ⟨S2x128x64x2x64, .f32⟩
  | .hbm, ⟨29, _⟩ => ⟨S2x128x64x2x64, .f32⟩
  | .hbm, ⟨30, _⟩ => ⟨S2x128x64x2x64, .f32⟩
  | .hbm, ⟨31, _⟩ => ⟨S2x128x1x64x2x64, .f32⟩
  | .hbm, ⟨32, _⟩ => ⟨S2x128x1x64x2x64, .f32⟩
  | .hbm, ⟨33, _⟩ => ⟨S2x128x1x64x2x64, .f32⟩
  | .hbm, ⟨34, _⟩ => ⟨S2x128x3x64x2x64, .f32⟩
  | .hbm, ⟨35, _⟩ => ⟨S2x128x192x2x64, .f32⟩
  | .hbm, ⟨36, _⟩ => ⟨S2x128x2x192x64x2, .f32⟩
  | .hbm, ⟨37, _⟩ => ⟨S2x128x2x2x64x192, .f32⟩
  | .hbm, ⟨38, _⟩ => ⟨S_, .f32⟩
  | .hbm, ⟨39, _⟩ => ⟨S2x128x2x2x64x192, .f32⟩
  | .hbm, ⟨40, _⟩ => ⟨S2x128x2x2x64x192, .f32⟩
  | .hbm, ⟨41, _⟩ => ⟨S128, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S192, .i32⟩
  | .hbm, ⟨50, _⟩ => ⟨S1x192, .i32⟩
  | .hbm, ⟨51, _⟩ => ⟨S128x192, .i32⟩
  | .hbm, ⟨52, _⟩ => ⟨S128x192, .i32⟩
  | .hbm, ⟨53, _⟩ => ⟨S128x192, .i32⟩
  | .hbm, ⟨54, _⟩ => ⟨S_, .i32⟩
  | .hbm, ⟨55, _⟩ => ⟨S128x192, .i32⟩
  | .hbm, ⟨56, _⟩ => ⟨S128x192, .i1⟩
  | .hbm, ⟨57, _⟩ => ⟨S1x128x1x1x1x192, .i1⟩
  | .hbm, ⟨58, _⟩ => ⟨S_, .f32⟩
  | .hbm, ⟨59, _⟩ => ⟨S_, .f32⟩
  | .hbm, ⟨60, _⟩ => ⟨S2x128x2x2x64x192, .i1⟩
  | .hbm, ⟨61, _⟩ => ⟨S2x128x2x2x64x192, .f32⟩
  | .hbm, ⟨62, _⟩ => ⟨S2x128x2x2x64x192, .f32⟩
  | .hbm, ⟨63, _⟩ => ⟨S1x1x2x2x1x1, .f32⟩
  | .hbm, ⟨64, _⟩ => ⟨S_, .f32⟩
  | .hbm, ⟨65, _⟩ => ⟨S2x128x2x2x64, .f32⟩
  | .hbm, ⟨66, _⟩ => ⟨S2x128x2x2x64x1, .f32⟩
  | .hbm, ⟨67, _⟩ => ⟨S2x128x2x2x64x1, .f32⟩
  | .hbm, ⟨68, _⟩ => ⟨S2x128x2x2x64x1, .f32⟩
  | .hbm, ⟨69, _⟩ => ⟨S2x128x2x2x64x192, .f32⟩
  | .hbm, ⟨70, _⟩ => ⟨S2x128x2x2x64x192, .f32⟩
  | .hbm, ⟨71, _⟩ => ⟨S2x128x2x2x64x192, .f32⟩
  | .hbm, ⟨72, _⟩ => ⟨S_, .f32⟩
  | .hbm, ⟨73, _⟩ => ⟨S2x128x2x2x64, .f32⟩
  | .hbm, ⟨74, _⟩ => ⟨S2x128x2x2x64x1, .f32⟩
  | .hbm, ⟨75, _⟩ => ⟨S2x128x2x2x64x1, .f32⟩
  | .hbm, ⟨76, _⟩ => ⟨S2x128x2x2x64x1, .f32⟩
  | .hbm, ⟨77, _⟩ => ⟨S2x128x2x2x64x1, .f32⟩
  | .hbm, ⟨78, _⟩ => ⟨S2x128x2x2x64x1, .f32⟩
  | .hbm, ⟨79, _⟩ => ⟨S2x128x2x2x64x192, .f32⟩
  | .hbm, ⟨80, _⟩ => ⟨S2x128x2x2x64x192, .f32⟩
  | .hbm, ⟨81, _⟩ => ⟨S2x128x2x64x2x64, .f32⟩
  | .hbm, ⟨82, _⟩ => ⟨S2x128x64x2x2x64, .f32⟩
  | .hbm, ⟨83, _⟩ => ⟨S16384x256, .f32⟩
  | _, _ => ⟨S17408x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_call1_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_1 : Ref sig .tc := ⟨.hbm, 43, rfl⟩
abbrev main_v34 : Ref sig .tc := ⟨.hbm, 44, rfl⟩
abbrev main_v35 : Ref sig .tc := ⟨.hbm, 45, rfl⟩
abbrev main_c_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel2.lean ====
abbrev S77 : Shape := ⟨1, ![77]⟩
abbrev S1 : Shape := ⟨1, ![1]⟩
abbrev S39424x256 : Shape := ⟨2, ![39424, 256]⟩
abbrev S39424x128 : Shape := ⟨2, ![39424, 128]⟩
abbrev S8x1024x3584 : Shape := ⟨3, ![8, 1024, 3584]⟩
abbrev S8x3584x1024 : Shape := ⟨3, ![8, 3584, 1024]⟩
abbrev S78848x256 : Shape := ⟨2, ![78848, 256]⟩
abbrev S512x256 : Shape := ⟨2, ![512, 256]⟩
abbrev S512x128 : Shape := ⟨2, ![512, 128]⟩
abbrev S1x1024x1792 : Shape := ⟨3, ![1, 1024, 1792]⟩
abbrev S1x1792x1024 : Shape := ⟨3, ![1, 1792, 1024]⟩
abbrev S1024x256 : Shape := ⟨2, ![1024, 256]⟩
abbrev S512x1024 : Shape := ⟨2, ![512, 1024]⟩
abbrev S1024x1792 : Shape := ⟨2, ![1024, 1792]⟩
abbrev S512x1792 : Shape := ⟨2, ![512, 1792]⟩
abbrev S1792x1024 : Shape := ⟨2, ![1792, 1024]⟩
abbrev S512 : Shape := ⟨1, ![512]⟩
abbrev S512x1 : Shape := ⟨2, ![512, 1]⟩

abbrev nBuf : Space → Nat
  | .hbm => 8
  | .vmem => 17
  | .smem => 2
  | _ => 0

abbrev bufTy : (tb : Table) → Fin (tcTables nBuf tb) → BufTy
  | .hbm, ⟨0, _⟩ => ⟨S39424x256, .i32⟩
  | .hbm, ⟨1, _⟩ => ⟨S39424x256, .i32⟩
  | .hbm, ⟨2, _⟩ => ⟨S39424x128, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S78848x256, .bf16⟩
  | .hbm, ⟨7, _⟩ => ⟨S78848x256, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S512x128, .f32⟩
  | .local _ .vmem, ⟨5, _⟩ => ⟨S512x128, .f32⟩
  | .local _ .vmem, ⟨6, _⟩ => ⟨S1x1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1024x1792, .bf16⟩
  | .local _ .vmem, ⟨10, _⟩ => ⟨S1x1792x1024, .bf16⟩
  | .local _ .vmem, ⟨11, _⟩ => ⟨S1x1792x1024, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S512x1024, .f32⟩
  | .local _ .smem, ⟨0, _⟩ => ⟨S77, .i32⟩
  | .local _ .smem, ⟨1, _⟩ => ⟨S1, .i32⟩
  | _, _ => ⟨S39424x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![77, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_0 : BitVec 32 := 0#32
  let v6 : BitVec 1 := Scalar.cmpi .ne v5 c0_i32_0
  v6

def k0_off2 (i : grid0.Coords) : Fin 1 → Nat :=
  let arg0 : BitVec 32 := BitVec.ofNat 32 (i 0).val
  let v8 : Index := Scalar.indexCast arg0
  ![v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (k0_off1_inb : ∀ i : grid0.Coords, ∀ a, (k0_off1 i) a + S1.size a ≤ S77.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S77) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S77.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S77) ![v0.toNat] S1.size (k0_off1_inb i)) numel1_S1
  let c0_i32 : BitVec 32 := 0#32
  let c0_i32_0 : BitVec 32 := 0#32
  ![v1.toNat, c0_i32.toNat, arg1.toNat]

def cc0_transform_5 (k0_off1_inb : ∀ i : grid0.Coords, ∀ a, (k0_off1 i) a + S1.size a ≤ S77.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S77) ![v0.toNat] S1.size (k0_off1_inb i)) numel1_S1
  let c0_i32 : BitVec 32 := 0#32
  let c0_i32_0 : BitVec 32 := 0#32
  ![v1.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F]
-- ==== Reference2Ideal.lean ====
abbrev S77 : Shape := ⟨1, ![77]⟩
abbrev S1 : Shape := ⟨1, ![1]⟩
abbrev S39424x256 : Shape := ⟨2, ![39424, 256]⟩
abbrev S39424x128 : Shape := ⟨2, ![39424, 128]⟩
abbrev S8x1024x3584 : Shape := ⟨3, ![8, 1024, 3584]⟩
abbrev S8x3584x1024 : Shape := ⟨3, ![8, 3584, 1024]⟩
abbrev S_ : Shape := ⟨0, ![]⟩
abbrev S39424x1024 : Shape := ⟨2, ![39424, 1024]⟩
abbrev S39424 : Shape := ⟨1, ![39424]⟩
abbrev S77x1 : Shape := ⟨2, ![77, 1]⟩
abbrev S77x512 : Shape := ⟨2, ![77, 512]⟩
abbrev S39424x1 : Shape := ⟨2, ![39424, 1]⟩
abbrev S8 : Shape := ⟨1, ![8]⟩
abbrev S1x8 : Shape := ⟨2, ![1, 8]⟩
abbrev S39424x8 : Shape := ⟨2, ![39424, 8]⟩
abbrev S1x1 : Shape := ⟨2, ![1, 1]⟩
abbrev S8x3584x39424 : Shape := ⟨3, ![8, 3584, 39424]⟩
abbrev S8x39424x3584 : Shape := ⟨3, ![8, 39424, 3584]⟩
abbrev S8x39424x1024 : Shape := ⟨3, ![8, 39424, 1024]⟩
abbrev S8x39424 : Shape := ⟨2, ![8, 39424]⟩
abbrev S8x39424x1 : Shape := ⟨3, ![8, 39424, 1]⟩
abbrev S39424x1x256 : Shape := ⟨3, ![39424, 1, 256]⟩
abbrev S39424x2x256 : Shape := ⟨3, ![39424, 2, 256]⟩
abbrev S78848x256 : Shape := ⟨2, ![78848, 256]⟩

abbrev nBuf : Space → Nat
  | .hbm => 100
  | .vmem => 0
  | .smem => 0
  | _ => 0

abbrev bufTy : (tb : Table) → Fin (tcTables nBuf tb) → BufTy
  | .hbm, ⟨0, _⟩ => ⟨S77, .i32⟩
  | .hbm, ⟨1, _⟩ => ⟨S1, .i32⟩
  | .hbm, ⟨2, _⟩ => ⟨S39424x256, .i32⟩
  | .hbm, ⟨3, _⟩ => ⟨S39424x256, .i32⟩
  | .hbm, ⟨4, _⟩ => ⟨S39424x128, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S_, .i32⟩
  | .hbm, ⟨9, _⟩ => ⟨S39424x256, .i32⟩
  | .hbm, ⟨10, _⟩ => ⟨S39424x256, .i32⟩
  | .hbm, ⟨11, _⟩ => ⟨S39424x256, .f32⟩
  | .hbm, ⟨12, _⟩ => ⟨S_, .i32⟩
  | .hbm, ⟨13, _⟩ => ⟨S39424x256, .i32⟩
  | .hbm, ⟨14, _⟩ => ⟨S39424x256, .i32⟩
  | .hbm, ⟨15, _⟩ => ⟨S39424x256, .f32⟩
  | .hbm, ⟨16, _⟩ => ⟨S_, .i32⟩
  | .hbm, ⟨17, _⟩ => ⟨S39424x256, .i32⟩
  | .hbm, ⟨18, _⟩ => ⟨S39424x256, .i32⟩
  | .hbm, ⟨19, _⟩ => ⟨S39424x256, .f32⟩
  | .hbm, ⟨20, _⟩ => ⟨S_, .i32⟩
  | .hbm, ⟨21, _⟩ => ⟨S39424x256, .i32⟩
  | .hbm, ⟨22, _⟩ => ⟨S39424x256, .i32⟩
  | .hbm, ⟨23, _⟩ => ⟨S39424x256, .f32⟩
  | .hbm, ⟨24, _⟩ => ⟨S39424x1024, .f32⟩
  | .hbm, ⟨25, _⟩ => ⟨S39424x1024, .bf16⟩
  | .hbm, ⟨26, _⟩ => ⟨S39424, .i32⟩
  | .hbm, ⟨27, _⟩ => ⟨S_, .i32⟩
  | .hbm, ⟨28, _⟩ => ⟨S_, .i32⟩
  | .hbm, ⟨29, _⟩ => ⟨S39424, .i32⟩
  | .hbm, ⟨30, _⟩ => ⟨S39424, .i32⟩
  | .hbm, ⟨31, _⟩ => ⟨S39424, .i32⟩
  | .hbm, ⟨32, _⟩ => ⟨S_, .i32⟩
  | .hbm, ⟨33, _⟩ => ⟨S39424, .i32⟩
  | .hbm, ⟨34, _⟩ => ⟨S39424, .i1⟩
  | .hbm, ⟨35, _⟩ => ⟨S39424, .i32⟩
  | .hbm, ⟨36, _⟩ => ⟨S39424, .i32⟩
  | .hbm, ⟨37, _⟩ => ⟨S_, .i32⟩
  | .hbm, ⟨38, _⟩ => ⟨S39424, .i32⟩
  | .hbm, ⟨39, _⟩ => ⟨S39424, .i1⟩
  | .hbm, ⟨40, _⟩ => ⟨S39424, .i1⟩
  | .hbm, ⟨41, _⟩ => ⟨S_, .i32⟩
  | .hbm, ⟨42, _⟩ => ⟨S39424, .i32⟩
  | .hbm, ⟨43, _⟩ => ⟨S39424, .i32⟩
  | .hbm, ⟨44, _⟩ => ⟨S39424, .i32⟩
  | .hbm, ⟨45, _⟩ => ⟨S77x1, .i32⟩
  | .hbm, ⟨46, _⟩ => ⟨S77x512, .i32⟩
  | .hbm, ⟨47, _⟩ => ⟨S39424, .i32⟩
  | .hbm, ⟨48, _⟩ => ⟨S39424x1, .i32⟩
  | .hbm, ⟨49, _⟩ => ⟨S8, .i32⟩
  | .hbm, ⟨50, _⟩ => ⟨S1x8, .i32⟩
  | .hbm, ⟨51, _⟩ => ⟨S39424x8, .i32⟩
  | .hbm, ⟨52, _⟩ => ⟨S39424x8, .i32⟩
  | .hbm, ⟨53, _⟩ => ⟨S39424x8, .i1⟩
  | .hbm, ⟨54, _⟩ => ⟨S39424x1, .i32⟩
  | .hbm, ⟨55, _⟩ => ⟨S1x1, .i32⟩
  | .hbm, ⟨56, _⟩ => ⟨S39424x1, .i32⟩
  | .hbm, ⟨57, _⟩ => ⟨S39424x1, .i1⟩
  | .hbm, ⟨58, _⟩ => ⟨S39424x8, .i1⟩
  | .hbm, ⟨59, _⟩ => ⟨S39424x8, .i1⟩
  | .hbm, ⟨60, _⟩ => ⟨S39424x8, .f32⟩
  | .hbm, ⟨61, _⟩ => ⟨S_, .f32⟩
  | .hbm, ⟨62, _⟩ => ⟨S_, .f32⟩
  | .hbm, ⟨63, _⟩ => ⟨S39424x8, .f32⟩
  | .hbm, ⟨64, _⟩ => ⟨S39424x8, .f32⟩
  | .hbm, ⟨65, _⟩ => ⟨S8x3584x39424, .f32⟩
  | .hbm, ⟨66, _⟩ => ⟨S8x39424x3584, .f32⟩
  | .hbm, ⟨67, _⟩ => ⟨S8x3584x39424, .f32⟩
  | .hbm, ⟨68, _⟩ => ⟨S8x39424x3584, .f32⟩
  | .hbm, ⟨69, _⟩ => ⟨S8x39424x3584, .f32⟩
  | .hbm, ⟨70, _⟩ => ⟨S8x39424x3584, .f32⟩
  | .hbm, ⟨71, _⟩ => ⟨S_, .f32⟩
  | .hbm, ⟨72, _⟩ => ⟨S8x39424x3584, .f32⟩
  | .hbm, ⟨73, _⟩ => ⟨S8x39424x3584, .f32⟩
  | .hbm, ⟨74, _⟩ => ⟨S_, .f32⟩
  | .hbm, ⟨75, _⟩ => ⟨S8x39424x3584, .f32⟩
  | .hbm, ⟨76, _⟩ => ⟨S8x39424x3584, .f32⟩
  | .hbm, ⟨77, _⟩ => ⟨S8x39424x3584, .f32⟩
  | .hbm, ⟨78, _⟩ => ⟨S8x39424x3584, .f32⟩
  | .hbm, ⟨79, _⟩ => ⟨S8x39424x3584, .bf16⟩
  | .hbm, ⟨80, _⟩ => ⟨S8x39424x1024, .f32⟩
  | .hbm, ⟨81, _⟩ => ⟨S8x39424, .f32⟩
  | .hbm, ⟨82, _⟩ => ⟨S8x39424x1, .f32⟩
  | .hbm, ⟨83, _⟩ => ⟨S8x39424x1024, .f32⟩
  | .hbm, ⟨84, _⟩ => ⟨S8x39424x1024, .f32⟩
  | .hbm, ⟨85, _⟩ => ⟨S_, .f32⟩
  | .hbm, ⟨86, _⟩ => ⟨S39424x1024, .f32⟩
  | .hbm, ⟨87, _⟩ => ⟨S39424x1024, .bf16⟩
  | .hbm, ⟨88, _⟩ => ⟨S39424x256, .bf16⟩
  | .hbm, ⟨89, _⟩ => ⟨S39424x256, .bf16⟩
  | .hbm, ⟨90, _⟩ => ⟨S39424x1x256, .bf16⟩
  | .hbm, ⟨91, _⟩ => ⟨S39424x1x256, .bf16⟩
  | .hbm, ⟨92, _⟩ => ⟨S39424x2x256, .bf16⟩
  | .hbm, ⟨93, _⟩ => ⟨S78848x256, .bf16⟩
  | .hbm, ⟨94, _⟩ => ⟨S39424x256, .bf16⟩
  | .hbm, ⟨95, _⟩ => ⟨S39424x256, .bf16⟩
  | .hbm, ⟨96, _⟩ => ⟨S39424x1x256, .bf16⟩
  | .hbm, ⟨97, _⟩ => ⟨S39424x1x256, .bf16⟩
  | .hbm, ⟨98, _⟩ => ⟨S39424x2x256, .bf16⟩
  | .hbm, ⟨99, _⟩ => ⟨S78848x256, .bf16⟩
  | _, _ => ⟨S77, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_4 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S16384x256 : Shape := ⟨2, ![16384, 256]⟩
abbrev S1024x256 : Shape := ⟨2, ![1024, 256]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S17408x1024 : Shape := ⟨2, ![17408, 1024]⟩
abbrev S512x1024 : Shape := ⟨2, ![512, 1024]⟩
abbrev S512x256 : Shape := ⟨2, ![512, 256]⟩
abbrev S1024x1408 : Shape := ⟨2, ![1024, 1408]⟩
abbrev S1408x1024 : Shape := ⟨2, ![1408, 1024]⟩
abbrev S256x1024 : Shape := ⟨2, ![256, 1024]⟩
abbrev S512 : Shape := ⟨1, ![512]⟩
abbrev S512x1 : Shape := ⟨2, ![512, 1]⟩
abbrev S512x1408 : Shape := ⟨2, ![512, 1408]⟩

abbrev nBuf : Space → Nat
  | .hbm => 17
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x256, .f32⟩
  | .hbm, ⟨3, _⟩ => ⟨S1024x256, .f32⟩
  | .hbm, ⟨4, _⟩ => ⟨S16384x256, .f32⟩
  | .hbm, ⟨5, _⟩ => ⟨S1024x256, .f32⟩
  | .hbm, ⟨6, _⟩ => ⟨S16384x256, .f32⟩
  | .hbm, ⟨7, _⟩ => ⟨S1024x256, .f32⟩
  | .hbm, ⟨8, _⟩ => ⟨S16384x256, .f32⟩
  | .hbm, ⟨9, _⟩ => ⟨S1024x256, .f32⟩
  | .hbm, ⟨10, _⟩ => ⟨S1024x1024, .bf16⟩
  | .hbm, ⟨11, _⟩ => ⟨S1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S1024x1024, .bf16⟩
  | .local _ .vmem, ⟨21, _⟩ => ⟨S1x1024, .f32⟩
  | .local _ .vmem, ⟨22, _⟩ => ⟨S1024x1408, .bf16⟩
  | .local _ .vmem, ⟨23, _⟩ => ⟨S1024x1408, .bf16⟩
  | .local _ .vmem, ⟨24, _⟩ => ⟨S1024x1408, .bf16⟩
  | .local _ .vmem, ⟨25, _⟩ => ⟨S1024x1408, .bf16⟩
  | .local _ .vmem, ⟨26, _⟩ => ⟨S1408x1024, .bf16⟩
  | .local _ .vmem, ⟨27, _⟩ => ⟨S1408x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![34, 2], ![false, false]⟩

def k0_cond2 (i : grid0.Coords) : BitVec 1 :=
  let arg1 : BitVec 32 := BitVec.ofNat 32 (i 1).val
  let c0_i32_13 : BitVec 32 := 0#32
  let v20 : BitVec 1 := Scalar.cmpi .eq arg1 c0_i32_13
  let v21 : BitVec 32 := Scalar.extui v20
  let c0_i32_14 : BitVec 32 := 0#32
  let v22 : BitVec 1 := Scalar.cmpi .ne v21 c0_i32_14
  v22

def k0_cond3 (i : grid0.Coords) : BitVec 1 :=
  let arg1 : BitVec 32 := BitVec.ofNat 32 (i 1).val
  let c0_i32_15 : BitVec 32 := 0#32
  let v23 : BitVec 1 := Scalar.cmpi .ne arg1 c0_i32_15
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1408x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference3Ideal.lean ====
abbrev S16384x1024 : Shape := ⟨2, ![16384, 1024]⟩
abbrev S1024x1024 : Shape := ⟨2, ![1024, 1024]⟩
abbrev S16384x256 : Shape := ⟨2, ![16384, 256]⟩
abbrev S1024x256 : Shape := ⟨2, ![1024, 256]⟩
abbrev S1024 : Shape := ⟨1, ![1024]⟩
abbrev S1024x2816 : Shape := ⟨2, ![1024, 2816]⟩
abbrev S2816x1024 : Shape := ⟨2, ![2816, 1024]⟩
abbrev S17408x1024 : Shape := ⟨2, ![17408, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x2816 : Shape := ⟨2, ![17408, 2816]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x256, .f32⟩
  | .hbm, ⟨3, _⟩ => ⟨S1024x256, .f32⟩
  | .hbm, ⟨4, _⟩ => ⟨S16384x256, .f32⟩
  | .hbm, ⟨5, _⟩ => ⟨S1024x256, .f32⟩
  | .hbm, ⟨6, _⟩ => ⟨S16384x256, .f32⟩
  | .hbm, ⟨7, _⟩ => ⟨S1024x256, .f32⟩
  | .hbm, ⟨8, _⟩ => ⟨S16384x256, .f32⟩
  | .hbm, ⟨9, _⟩ => ⟨S1024x256, .f32⟩
  | .hbm, ⟨10, _⟩ => ⟨S1024x1024, .bf16⟩
  | .hbm, ⟨11, _⟩ => ⟨S1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S17408x1024, .f32⟩
  | .hbm, ⟨16, _⟩ => ⟨S16384x1024, .f32⟩
  | .hbm, ⟨17, _⟩ => ⟨S1024x1024, .f32⟩
  | .hbm, ⟨18, _⟩ => ⟨S17408x1024, .f32⟩
  | .hbm, ⟨19, _⟩ => ⟨S17408x1024, .bf16⟩
  | .hbm, ⟨20, _⟩ => ⟨S17408x1024, .f32⟩
  | .hbm, ⟨21, _⟩ => ⟨S17408x1024, .f32⟩
  | .hbm, ⟨22, _⟩ => ⟨S17408x1024, .f32⟩
  | .hbm, ⟨23, _⟩ => ⟨S_, .f32⟩
  | .hbm, ⟨24, _⟩ => ⟨S17408, .f32⟩
  | .hbm, ⟨25, _⟩ => ⟨S17408x1, .f32⟩
  | .hbm, ⟨26, _⟩ => ⟨S_, .f32⟩
  | .hbm, ⟨27, _⟩ => ⟨S17408x1, .f32⟩
  | .hbm, ⟨28, _⟩ => ⟨S17408x1, .f32⟩
  | .hbm, ⟨29, _⟩ => ⟨S_, .f32⟩
  | .hbm, ⟨30, _⟩ => ⟨S17408x1, .f32⟩
  | .hbm, ⟨31, _⟩ => ⟨S17408x1, .f32⟩
  | .hbm, ⟨32, _⟩ => ⟨S17408x1, .f32⟩
  | .hbm, ⟨33, _⟩ => ⟨S17408x1024, .f32⟩
  | .hbm, ⟨34, _⟩ => ⟨S17408x1024, .f32⟩
  | .hbm, ⟨35, _⟩ => ⟨S1x1024, .f32⟩
  | .hbm, ⟨36, _⟩ => ⟨S17408x1024, .f32⟩
  | .hbm, ⟨37, _⟩ => ⟨S17408x1024, .f32⟩
  | .hbm, ⟨38, _⟩ => ⟨S17408x1024, .bf16⟩
  | .hbm, ⟨39, _⟩ => ⟨S17408x2816, .f32⟩
  | .hbm, ⟨40, _⟩ => ⟨S17408x2816, .f32⟩
  | .hbm, ⟨41, _⟩ => ⟨S17408x2816, .f32⟩
  | .hbm, ⟨42, _⟩ => ⟨S_, .f32⟩
  | .hbm, ⟨43, _⟩ => ⟨S17408x2816, .f32⟩
  | .hbm, ⟨44, _⟩ => ⟨S17408x2816, .f32⟩
  | .hbm, ⟨45, _⟩ => ⟨S_, .f32⟩
  | .hbm, ⟨46, _⟩ => ⟨S17408x2816, .f32⟩
  | .hbm, ⟨47, _⟩ => ⟨S17408x2816, .f32⟩
  | .hbm, ⟨48, _⟩ => ⟨S17408x2816, .f32⟩
  | .hbm, ⟨49, _⟩ => ⟨S17408x2816, .f32⟩
  | .hbm, ⟨50, _⟩ => ⟨S17408x2816, .f32⟩
  | .hbm, ⟨51, _⟩ => ⟨S17408x2816, .bf16⟩
  | .hbm, ⟨52, _⟩ => ⟨S17408x1024, .f32⟩
  | .hbm, ⟨53, _⟩ => ⟨S17408x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S1024 : Shape := ⟨1, ![1024]⟩
abbrev S1024x3328 : Shape := ⟨2, ![1024, 3328]⟩
abbrev S64 : Shape := ⟨1, ![64]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x64 : Shape := ⟨2, ![2, 64]⟩
abbrev S128 : Shape := ⟨1, ![128]⟩
abbrev S1x128 : Shape := ⟨2, ![1, 128]⟩
abbrev S17408x256 : Shape := ⟨2, ![17408, 256]⟩
abbrev S17408x128 : Shape := ⟨2, ![17408, 128]⟩
abbrev S17408x1024 : Shape := ⟨2, ![17408, 1024]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256x256 : Shape := ⟨2, ![256, 256]⟩
abbrev S1024x256 : Shape := ⟨2, ![1024, 256]⟩
abbrev S1024x128 : Shape := ⟨2, ![1024, 128]⟩
abbrev S128x128 : Shape := ⟨2, ![128, 128]⟩

abbrev nBuf : Space → Nat
  | .hbm => 33
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x3328, .bf16⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1024, .f32⟩
  | .hbm, ⟨9, _⟩ => ⟨S1x64, .f32⟩
  | .hbm, ⟨10, _⟩ => ⟨S4x64, .f32⟩
  | .hbm, ⟨11, _⟩ => ⟨S256, .f32⟩
  | .hbm, ⟨12, _⟩ => ⟨S1x256, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S1x64, .f32⟩
  | .hbm, ⟨18, _⟩ => ⟨S4x64, .f32⟩
  | .hbm, ⟨19, _⟩ => ⟨S256, .f32⟩
  | .hbm, ⟨20, _⟩ => ⟨S1x256, .f32⟩
  | .hbm, ⟨21, _⟩ => ⟨S1x64, .f32⟩
  | .hbm, ⟨22, _⟩ => ⟨S4x64, .f32⟩
  | .hbm, ⟨23, _⟩ => ⟨S256, .f32⟩
  | .hbm, ⟨24, _⟩ => ⟨S1x256, .f32⟩
  | .hbm, ⟨25, _⟩ => ⟨S17408x256, .f32⟩
  | .hbm, ⟨26, _⟩ => ⟨S17408x128, .f32⟩
  | .hbm, ⟨27, _⟩ => ⟨S17408x128, .f32⟩
  | .hbm, ⟨28, _⟩ => ⟨S17408x1024, .f32⟩
  | .hbm, ⟨29, _⟩ => ⟨S17408x1024, .f32⟩
  | .hbm, ⟨30, _⟩ => ⟨S17408x256, .f32⟩
  | .hbm, ⟨31, _⟩ => ⟨S17408x256, .f32⟩
  | .hbm, ⟨32, _⟩ => ⟨S17408x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3328, .bf16⟩
  | .local _ .vmem, ⟨6, _⟩ => ⟨S1x256, .f32⟩
  | .local _ .vmem, ⟨7, _⟩ => ⟨S1x128, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev main_v17_6 : Ref sig .tc := ⟨.hbm, 31, rfl⟩
abbrev main_v17_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S1024x1024 : Shape := ⟨2, ![1024, 1024]⟩
abbrev S1024 : Shape := ⟨1, ![1024]⟩
abbrev S1024x3328 : Shape := ⟨2, ![1024, 3328]⟩
abbrev S64 : Shape := ⟨1, ![64]⟩
abbrev S17408x1024 : Shape := ⟨2, ![17408, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x3328 : Shape := ⟨2, ![17408, 3328]⟩
abbrev S17408x256 : Shape := ⟨2, ![17408, 256]⟩
abbrev S17408x4x64 : Shape := ⟨3, ![17408, 4, 64]⟩
abbrev S17408x4 : Shape := ⟨2, ![17408, 4]⟩
abbrev S17408x4x1 : Shape := ⟨3, ![17408, 4, 1]⟩
abbrev S1x1x64 : Shape := ⟨3, ![1, 1, 64]⟩
abbrev S17408x128 : Shape := ⟨2, ![17408, 128]⟩
abbrev S17408x2x64 : Shape := ⟨3, ![17408, 2, 64]⟩
abbrev S17408x2 : Shape := ⟨2, ![17408, 2]⟩
abbrev S17408x2x1 : Shape := ⟨3, ![17408, 2, 1]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x3328, .bf16⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S17408x1024, .f32⟩
  | .hbm, ⟨9, _⟩ => ⟨S17408x1024, .f32⟩
  | .hbm, ⟨10, _⟩ => ⟨S_, .f32⟩
  | .hbm, ⟨11, _⟩ => ⟨S17408, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S17408x1, .f32⟩
  | .hbm, ⟨20, _⟩ => ⟨S17408x1024, .f32⟩
  | .hbm, ⟨21, _⟩ => ⟨S17408x1024, .f32⟩
  | .hbm, ⟨22, _⟩ => ⟨S1x1024, .f32⟩
  | .hbm, ⟨23, _⟩ => ⟨S17408x1024, .f32⟩
  | .hbm, ⟨24, _⟩ => ⟨S17408x1024, .f32⟩
  | .hbm, ⟨25, _⟩ => ⟨S17408x1024, .bf16⟩
  | .hbm, ⟨26, _⟩ => ⟨S17408x3328, .f32⟩
  | .hbm, ⟨27, _⟩ => ⟨S17408x256, .f32⟩
  | .hbm, ⟨28, _⟩ => ⟨S17408x4x64, .f32⟩
  | .hbm, ⟨29, _⟩ => ⟨S17408x4x64, .f32⟩
  | .hbm, ⟨30, _⟩ => ⟨S_, .f32⟩
  | .hbm, ⟨31, _⟩ => ⟨S17408x4, .f32⟩
  | .hbm, ⟨32, _⟩ => ⟨S17408x4x1, .f32⟩
  | .hbm, ⟨33, _⟩ => ⟨S_, .f32⟩
  | .hbm, ⟨34, _⟩ => ⟨S17408x4x1, .f32⟩
  | .hbm, ⟨35, _⟩ => ⟨S17408x4x1, .f32⟩
  | .hbm, ⟨36, _⟩ => ⟨S_, .f32⟩
  | .hbm, ⟨37, _⟩ => ⟨S17408x4x1, .f32⟩
  | .hbm, ⟨38, _⟩ => ⟨S17408x4x1, .f32⟩
  | .hbm, ⟨39, _⟩ => ⟨S17408x4x1, .f32⟩
  | .hbm, ⟨40, _⟩ => ⟨S17408x4x64, .f32⟩
  | .hbm, ⟨41, _⟩ => ⟨S17408x4x64, .f32⟩
  | .hbm, ⟨42, _⟩ => ⟨S1x1x64, .f32⟩
  | .hbm, ⟨43, _⟩ => ⟨S17408x4x64, .f32⟩
  | .hbm, ⟨44, _⟩ => ⟨S17408x4x64, .f32⟩
  | .hbm, ⟨45, _⟩ => ⟨S17408x256, .f32⟩
  | .hbm, ⟨46, _⟩ => ⟨S17408x128, .f32⟩
  | .hbm, ⟨47, _⟩ => ⟨S17408x2x64, .f32⟩
  | .hbm, ⟨48, _⟩ => ⟨S17408x2x64, .f32⟩
  | .hbm, ⟨49, _⟩ => ⟨S_, .f32⟩
  | .hbm, ⟨50, _⟩ => ⟨S17408x2, .f32⟩
  | .hbm, ⟨51, _⟩ => ⟨S17408x2x1, .f32⟩
  | .hbm, ⟨52, _⟩ => ⟨S_, .f32⟩
  | .hbm, ⟨53, _⟩ => ⟨S17408x2x1, .f32⟩
  | .hbm, ⟨54, _⟩ => ⟨S17408x2x1, .f32⟩
  | .hbm, ⟨55, _⟩ => ⟨S_, .f32⟩
  | .hbm, ⟨56, _⟩ => ⟨S17408x2x1, .f32⟩
  | .hbm, ⟨57, _⟩ => ⟨S17408x2x1, .f32⟩
  | .hbm, ⟨58, _⟩ => ⟨S17408x2x1, .f32⟩
  | .hbm, ⟨59, _⟩ => ⟨S17408x2x64, .f32⟩
  | .hbm, ⟨60, _⟩ => ⟨S17408x2x64, .f32⟩
  | .hbm, ⟨61, _⟩ => ⟨S1x1x64, .f32⟩
  | .hbm, ⟨62, _⟩ => ⟨S17408x2x64, .f32⟩
  | .hbm, ⟨63, _⟩ => ⟨S17408x2x64, .f32⟩
  | .hbm, ⟨64, _⟩ => ⟨S17408x128, .f32⟩
  | .hbm, ⟨65, _⟩ => ⟨S17408x128, .f32⟩
  | .hbm, ⟨66, _⟩ => ⟨S17408x1024, .f32⟩
  | .hbm, ⟨67, _⟩ => ⟨S17408x1024, .f32⟩
  | .hbm, ⟨68, _⟩ => ⟨S17408x256, .f32⟩
  | .hbm, ⟨69, _⟩ => ⟨S17408x4x64, .f32⟩
  | .hbm, ⟨70, _⟩ => ⟨S17408x4x64, .f32⟩
  | .hbm, ⟨71, _⟩ => ⟨S_, .f32⟩
  | .hbm, ⟨72, _⟩ => ⟨S17408x4, .f32⟩
  | .hbm, ⟨73, _⟩ => ⟨S17408x4x1, .f32⟩
  | .hbm, ⟨74, _⟩ => ⟨S_, .f32⟩
  | .hbm, ⟨75, _⟩ => ⟨S17408x4x1, .f32⟩
  | .hbm, ⟨76, _⟩ => ⟨S17408x4x1, .f32⟩
  | .hbm, ⟨77, _⟩ => ⟨S_, .f32⟩
  | .hbm, ⟨78, _⟩ => ⟨S17408x4x1, .f32⟩
  | .hbm, ⟨79, _⟩ => ⟨S17408x4x1, .f32⟩
  | .hbm, ⟨80, _⟩ => ⟨S17408x4x1, .f32⟩
  | .hbm, ⟨81, _⟩ => ⟨S17408x4x64, .f32⟩
  | .hbm, ⟨82, _⟩ => ⟨S17408x4x64, .f32⟩
  | .hbm, ⟨83, _⟩ => ⟨S1x1x64, .f32⟩
  | .hbm, ⟨84, _⟩ => ⟨S17408x4x64, .f32⟩
  | .hbm, ⟨85, _⟩ => ⟨S17408x4x64, .f32⟩
  | .hbm, ⟨86, _⟩ => ⟨S17408x256, .f32⟩
  | .hbm, ⟨87, _⟩ => ⟨S17408x256, .f32⟩
  | .hbm, ⟨88, _⟩ => ⟨S17408x4x64, .f32⟩
  | .hbm, ⟨89, _⟩ => ⟨S17408x4x64, .f32⟩
  | .hbm, ⟨90, _⟩ => ⟨S_, .f32⟩
  | .hbm, ⟨91, _⟩ => ⟨S17408x4, .f32⟩
  | .hbm, ⟨92, _⟩ => ⟨S17408x4x1, .f32⟩
  | .hbm, ⟨93, _⟩ => ⟨S_, .f32⟩
  | .hbm, ⟨94, _⟩ => ⟨S17408x4x1, .f32⟩
  | .hbm, ⟨95, _⟩ => ⟨S17408x4x1, .f32⟩
  | .hbm, ⟨96, _⟩ => ⟨S_, .f32⟩
  | .hbm, ⟨97, _⟩ => ⟨S17408x4x1, .f32⟩
  | .hbm, ⟨98, _⟩ => ⟨S17408x4x1, .f32⟩
  | .hbm, ⟨99, _⟩ => ⟨S17408x4x1, .f32⟩
  | .hbm, ⟨100, _⟩ => ⟨S17408x4x64, .f32⟩
  | .hbm, ⟨101, _⟩ => ⟨S17408x4x64, .f32⟩
  | .hbm, ⟨102, _⟩ => ⟨S1x1x64, .f32⟩
  | .hbm, ⟨103, _⟩ => ⟨S17408x4x64, .f32⟩
  | .hbm, ⟨104, _⟩ => ⟨S17408x4x64, .f32⟩
  | .hbm, ⟨105, _⟩ => ⟨S17408x256, .f32⟩
  | .hbm, ⟨106, _⟩ => ⟨S17408x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Kernel5.lean ====
abbrev S17408x1024 : Shape := ⟨2, ![17408, 1024]⟩
abbrev S17408x256 : Shape := ⟨2, ![17408, 256]⟩
abbrev S16384x1024 : Shape := ⟨2, ![16384, 1024]⟩
abbrev S512x1024 : Shape := ⟨2, ![512, 1024]⟩
abbrev S512x256 : Shape := ⟨2, ![512, 256]⟩
abbrev S1024x1024 : Shape := ⟨2, ![1024, 1024]⟩

abbrev nBuf : Space → Nat
  | .hbm => 7
  | .vmem => 24
  | .smem => 0
  | _ => 0

abbrev bufTy : (tb : Table) → Fin (tcTables nBuf tb) → BufTy
  | .hbm, ⟨0, _⟩ => ⟨S17408x1024, .f32⟩
  | .hbm, ⟨1, _⟩ => ⟨S17408x256, .i32⟩
  | .hbm, ⟨2, _⟩ => ⟨S17408x256, .i32⟩
  | .hbm, ⟨3, _⟩ => ⟨S17408x256, .i32⟩
  | .hbm, ⟨4, _⟩ => ⟨S17408x256, .i32⟩
  | .hbm, ⟨5, _⟩ => ⟨S16384x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .i32⟩
  | .local _ .vmem, ⟨3, _⟩ => ⟨S512x256, .i32⟩
  | .local _ .vmem, ⟨4, _⟩ => ⟨S512x256, .i32⟩
  | .local _ .vmem, ⟨5, _⟩ => ⟨S512x256, .i32⟩
  | .local _ .vmem, ⟨6, _⟩ => ⟨S512x256, .i32⟩
  | .local _ .vmem, ⟨7, _⟩ => ⟨S512x256, .i32⟩
  | .local _ .vmem, ⟨8, _⟩ => ⟨S512x256, .i32⟩
  | .local _ .vmem, ⟨9, _⟩ => ⟨S512x256, .i32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x256, .i32⟩
  | .local _ .vmem, ⟨15, _⟩ => ⟨S512x256, .i32⟩
  | .local _ .vmem, ⟨16, _⟩ => ⟨S512x256, .i32⟩
  | .local _ .vmem, ⟨17, _⟩ => ⟨S512x256, .i32⟩
  | .local _ .vmem, ⟨18, _⟩ => ⟨S512x256, .i32⟩
  | .local _ .vmem, ⟨19, _⟩ => ⟨S512x256, .i32⟩
  | .local _ .vmem, ⟨20, _⟩ => ⟨S512x256, .i32⟩
  | .local _ .vmem, ⟨21, _⟩ => ⟨S512x256, .i32⟩
  | .local _ .vmem, ⟨22, _⟩ => ⟨S512x1024, .f32⟩
  | .local _ .vmem, ⟨23, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference5Ideal.lean ====
abbrev S17408x1024 : Shape := ⟨2, ![17408, 1024]⟩
abbrev S17408x256 : Shape := ⟨2, ![17408, 256]⟩
abbrev S_ : Shape := ⟨0, ![]⟩
abbrev S16384x1024 : Shape := ⟨2, ![16384, 1024]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x256, .i32⟩
  | .hbm, ⟨2, _⟩ => ⟨S17408x256, .i32⟩
  | .hbm, ⟨3, _⟩ => ⟨S17408x256, .i32⟩
  | .hbm, ⟨4, _⟩ => ⟨S17408x256, .i32⟩
  | .hbm, ⟨5, _⟩ => ⟨S_, .i32⟩
  | .hbm, ⟨6, _⟩ => ⟨S17408x256, .i32⟩
  | .hbm, ⟨7, _⟩ => ⟨S17408x256, .i32⟩
  | .hbm, ⟨8, _⟩ => ⟨S17408x256, .f32⟩
  | .hbm, ⟨9, _⟩ => ⟨S_, .i32⟩
  | .hbm, ⟨10, _⟩ => ⟨S17408x256, .i32⟩
  | .hbm, ⟨11, _⟩ => ⟨S17408x256, .i32⟩
  | .hbm, ⟨12, _⟩ => ⟨S17408x256, .f32⟩
  | .hbm, ⟨13, _⟩ => ⟨S_, .i32⟩
  | .hbm, ⟨14, _⟩ => ⟨S17408x256, .i32⟩
  | .hbm, ⟨15, _⟩ => ⟨S17408x256, .i32⟩
  | .hbm, ⟨16, _⟩ => ⟨S17408x256, .f32⟩
  | .hbm, ⟨17, _⟩ => ⟨S_, .i32⟩
  | .hbm, ⟨18, _⟩ => ⟨S17408x256, .i32⟩
  | .hbm, ⟨19, _⟩ => ⟨S17408x256, .i32⟩
  | .hbm, ⟨20, _⟩ => ⟨S17408x256, .f32⟩
  | .hbm, ⟨21, _⟩ => ⟨S17408x1024, .f32⟩
  | .hbm, ⟨22, _⟩ => ⟨S17408x1024, .bf16⟩
  | .hbm, ⟨23, _⟩ => ⟨S17408x1024, .f32⟩
  | .hbm, ⟨24, _⟩ => ⟨S17408x1024, .f32⟩
  | .hbm, ⟨25, _⟩ => ⟨S_, .i32⟩
  | .hbm, ⟨26, _⟩ => ⟨S17408x256, .i32⟩
  | .hbm, ⟨27, _⟩ => ⟨S17408x256, .i32⟩
  | .hbm, ⟨28, _⟩ => ⟨S17408x256, .f32⟩
  | .hbm, ⟨29, _⟩ => ⟨S_, .i32⟩
  | .hbm, ⟨30, _⟩ => ⟨S17408x256, .i32⟩
  | .hbm, ⟨31, _⟩ => ⟨S17408x256, .i32⟩
  | .hbm, ⟨32, _⟩ => ⟨S17408x256, .f32⟩
  | .hbm, ⟨33, _⟩ => ⟨S_, .i32⟩
  | .hbm, ⟨34, _⟩ => ⟨S17408x256, .i32⟩
  | .hbm, ⟨35, _⟩ => ⟨S17408x256, .i32⟩
  | .hbm, ⟨36, _⟩ => ⟨S17408x256, .f32⟩
  | .hbm, ⟨37, _⟩ => ⟨S_, .i32⟩
  | .hbm, ⟨38, _⟩ => ⟨S17408x256, .i32⟩
  | .hbm, ⟨39, _⟩ => ⟨S17408x256, .i32⟩
  | .hbm, ⟨40, _⟩ => ⟨S17408x256, .f32⟩
  | .hbm, ⟨41, _⟩ => ⟨S17408x1024, .f32⟩
  | .hbm, ⟨42, _⟩ => ⟨S17408x1024, .bf16⟩
  | .hbm, ⟨43, _⟩ => ⟨S17408x1024, .f32⟩
  | .hbm, ⟨44, _⟩ => ⟨S17408x1024, .f32⟩
  | .hbm, ⟨45, _⟩ => ⟨S16384x1024, .f32⟩
  | .hbm, ⟨46, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.AttnChunk.lean ====
/- One 64-row chunk of the banded attention, read at an index: the stacked query heads, the scores
   against 192 keys, the weights with the sink in their denominator, and the head-by-head output. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

/-- Softmax-weighted sum of `v` with logits `s` and one more logit `z` that only the denominator counts. -/
def attend (s : Fin 192 → EReal) (z : EReal) (v : Fin 192 → EReal) : EReal :=
  (∑ k, Ideal.exp (s k - max (Finset.univ.fold max ⊥ s) z) * v k)
    * Ideal.div 1 ((∑ k, Ideal.exp (s k - max (Finset.univ.fold max ⊥ s) z)) + Ideal.exp (z - max (Finset.univ.fold max ⊥ s) z))

/-- The chunk's output from its scores, its values and the sink column. -/
def chunkOut (z : FVec Ideal S256x1 .f32) (s : FVec Ideal S256x192 .f32) (v : FVec Ideal S1x192x128 .bf16) : FVec Ideal S64x256 .f32 :=
  k0_pay66 k0_pay6 (k0_pay36 (k0_pay5 z) s) (k0_pay37 (k0_pay5 z) s) v

/-- A lane-number comparison selects by the lane number. -/
theorem low_select (a : ℕ) (ha : a < 256) (x y : EReal) :
    Scalar.select (IntOp.cmpi .slt (BitVec.ofNat 32 a) 64#32) x y = if a < 64 then x else y := by
  have e : (BitVec.ofNat 32 a).toInt = a := by
    rw [BitVec.toInt_eq_toNat_cond, BitVec.toNat_ofNat]; omega
  by_cases h : a < 64 <;> simp [Scalar.select, IntOp.cmpi, BitVec.slt, e, h]

/-- The literal minus infinity is the least extended real. -/
theorem ofBits_ninf : Ideal.ofBits .f32 0xFF800000#32 = ⊥ := by
  simp [Ideal.ofBits, Ideal.ieee]

/-- The output of head `h`, lane `d`, query row `r`: attention over the stacked row `64 h + r`, values from lanes `64 (h / 2) + d`. -/
theorem chunkOut_at (z : FVec Ideal S256x1 .f32) (s : FVec Ideal S256x192 .f32) (v : FVec Ideal S1x192x128 .bf16)
    (r : Fin 64) (l : Fin 256) :
    chunkOut z s v (ix2 r l)
      = attend (fun k => s (ix2 ⟨64 * (l.val / 64) + r.val, by omega⟩ k)) (z (ix2 ⟨64 * (l.val / 64) + r.val, by omega⟩ 0))
          (fun k => v (ix3 0 k ⟨64 * (l.val / 128) + l.val % 64, by omega⟩)) := by
  have h4 : l.val / 64 = 0 ∨ l.val / 64 = 1 ∨ l.val / 64 = 2 ∨ l.val / 64 = 3 := by omega
  have key : ∀ (R R' : Fin 256) (L L' : Fin 128), R = R' → L = L' →
      attend (fun k => s (ix2 R k)) (z (ix2 R 0)) (fun k => v (ix3 0 k L))
        = attend (fun k => s (ix2 R' k)) (z (ix2 R' 0)) (fun k => v (ix3 0 k L')) := by
    rintro R _ L _ rfl rfl; rfl
  unfold attend at key ⊢
  pointwise [chunkOut, k0_pay66, k0_pay6, k0_pay36, k0_pay37, k0_pay5, k0_pay35, k0_pay34]
  simp only [ofBits_ninf]
  generalize_proofs
  rcases h4 with h | h | h | h
  · rw [dif_pos (by omega), low_select _ (by omega), low_select _ (by omega), if_pos (by omega), if_neg (by omega), add_zero]
    exact key ⟨r.val, by omega⟩ _ ⟨l.val, by omega⟩ _ (Fin.ext (by simp only; omega)) (Fin.ext (by simp only; omega))
  · rw [dif_pos (by omega), low_select _ (by omega), low_select _ (by omega), if_neg (by omega), if_pos (by omega), zero_add]
    exact key ⟨64 + r.val, by omega⟩ _ ⟨(l.val + 128 - 64) % 128, by omega⟩ _ (Fin.ext (by simp only; omega)) (Fin.ext (by simp only; omega))
  · rw [dif_neg (by omega), low_select _ (by omega), low_select _ (by omega), if_neg (by omega), if_pos (by omega), add_zero]
    exact key ⟨128 + r.val, by omega⟩ _ ⟨(l.val - 128 + 128 - 64) % 128, by omega⟩ _ (Fin.ext (by simp only; omega)) (Fin.ext (by simp only; omega))
  · rw [dif_neg (by omega), low_select _ (by omega), low_select _ (by omega), if_pos (by omega), if_neg (by omega), zero_add]
    exact key ⟨192 + r.val, by omega⟩ _ ⟨l.val - 128, by omega⟩ _ (Fin.ext (by simp only; omega)) (Fin.ext (by simp only; omega))

/-- A sum over 128 lanes whose terms vanish outside one half is the sum over that half. -/
theorem sum_half (g : Fin 2) (f : Fin 128 → EReal) (hf : ∀ d : Fin 128, d.val / 64 ≠ g.val → f d = 0) :
    ∑ d, f d = ∑ d : Fin 64, f ⟨64 * g.val + d.val, by omega⟩ := by
  rw [Fin.sum_univ_two_halves 64 64 rfl f]
  obtain ⟨g, hg⟩ := g
  rcases (by omega : g = 0 ∨ g = 1) with rfl | rfl
  · rw [Finset.sum_eq_zero (s := Finset.univ) (f := fun d : Fin 64 => f ⟨64 + d.val, _⟩) (fun d _ => hf _ (by simp only; omega)), add_zero]
    exact Finset.sum_congr rfl fun d _ => congrArg f (Fin.ext (by simp))
  · rw [Finset.sum_eq_zero (s := Finset.univ) (f := fun d : Fin 64 => f ⟨d.val, _⟩) (fun d _ => hf _ (by simp only; omega)), zero_add]
    rfl

/-- The stacked queries at row `R`, lane `d`: head `R / 64`'s lanes sit in the half its key head uses, the other half is zero. -/
theorem stack_at (q : FVec Ideal S64x256 .f32) (R : Fin 256) (d : Fin 128) :
    k0_pay18 (F := Ideal) k0_pay6 q (ix2 R d)
      = if d.val / 64 = R.val / 128 then
          q (ix2 ⟨R.val % 64, by omega⟩ ⟨64 * (R.val / 64) + d.val % 64, by omega⟩) * Ideal.ofBits .f32 0x3E000000#32
        else 0 := by
  have key : ∀ (a a' : Fin 64) (b b' : Fin 256), a = a' → b = b' →
      q (ix2 a b) * Ideal.ofBits .f32 0x3E000000#32 = q (ix2 a' b') * Ideal.ofBits .f32 0x3E000000#32 := by
    rintro a _ b _ rfl rfl; rfl
  pointwise [k0_pay18, k0_pay6]
  simp only [low_select _ (show d.val < 256 by omega)]
  by_cases hg : d.val / 64 = R.val / 128
  · simp only [if_pos hg]
    split_ifs <;> first | omega | (apply key <;> (apply Fin.ext; simp only; omega))
  · simp only [if_neg hg]
    split_ifs <;> first | omega | rfl

/-- The scores of a chunk: the stacked queries against its keys. -/
def scores (q : FVec Ideal S64x256 .f32) (x : FVec Ideal S1x192x128 .bf16) : FVec Ideal S256x192 .f32 :=
  k0_pay20 (k0_pay18 k0_pay6 q) (k0_pay19 x)

/-- The scores at stacked row `R` (head `R / 64`, query row `R % 64`), key `k`. -/
theorem scores_at (q : FVec Ideal S64x256 .f32) (x : FVec Ideal S1x192x128 .bf16) (R : Fin 256) (k : Fin 192) :
    scores q x (ix2 R k)
      = ∑ d : Fin 64, q (ix2 ⟨R.val % 64, by omega⟩ ⟨64 * (R.val / 64) + d.val, by omega⟩) * Ideal.ofBits .f32 0x3E000000#32
          * x (ix3 0 k ⟨64 * (R.val / 128) + d.val, by omega⟩) := by
  have e : scores q x (ix2 R k) = ∑ d : Fin 128, k0_pay18 (F := Ideal) k0_pay6 q (ix2 R d) * x (ix3 0 k d) := by
    pointwise [scores, k0_pay20, k0_pay19]
  rw [e, sum_half ⟨R.val / 128, by omega⟩]
  · refine Finset.sum_congr rfl fun d _ => ?_
    rw [stack_at, if_pos (by simp only; omega)]
    refine congrArg (fun j => q (ix2 _ j) * _ * _) (Fin.ext ?_)
    simp only; omega
  · intro d hd
    rw [stack_at, if_neg (by simpa using hd), zero_mul]

/-- The masked scores of the stream's first two chunks: a key before the stream's start has the least score. -/
def masked (w : BitVec 32) (b : BitVec 32) (s : FVec Ideal S256x192 .f32) : FVec Ideal S256x192 .f32 :=
  select (andi (broadcast S256x192 (Scalar.cmpi .eq w 0#32))
      (cmpi .slt (addi (broadcast S256x192 b) (iota .tc S256x192 32 [1] iota_S256x192_d1_w32)) (broadcast S256x192 1024#32)))
    (broadcast S256x192 (Named.named (F := Ideal) κ "mask" (φ := .f32) 0xF149F2CA#32)) s

/-- The named constant is the least extended real. -/
theorem mask_val : (Named.named (F := Ideal) κ "mask" (φ := .f32) 0xF149F2CA#32 : EReal) = ⊥ :=
  IdealRules.named_const.ideal_named_scalar _ _ _ _ rfl

/-- The masked scores read at an index. -/
theorem masked_at (i b : ℕ) (hi : i < 8) (hb : b < 1024) (s : FVec Ideal S256x192 .f32) (R : Fin 256) (k : Fin 192) :
    masked (BitVec.ofNat 32 i) (BitVec.ofNat 32 b) s (ix2 R k) = if i = 0 ∧ b + k.val < 1024 then ⊥ else s (ix2 R k) := by
  have e1 : (BitVec.ofNat 32 i = 0#32) ↔ i = 0 := by
    rw [← BitVec.toNat_inj, BitVec.toNat_ofNat, BitVec.toNat_ofNat]; omega
  have e2 : (BitVec.ofNat 32 b + BitVec.ofNat 32 k.val).toInt = ((b + k.val : ℕ) : ℤ) := by
    rw [BitVec.toInt_eq_toNat_cond, BitVec.toNat_add, BitVec.toNat_ofNat, BitVec.toNat_ofNat]; omega
  have c1 : Scalar.cmpi .eq (BitVec.ofNat 32 i) 0#32 = if i = 0 then 1#1 else 0#1 := by
    by_cases h : i = 0
    · subst h; rfl
    · have : (BitVec.ofNat 32 i == 0#32) = false := by simpa using fun e => h (e1.1 e)
      simp [Scalar.cmpi, IntOp.cmpi, this, h]
  have c2 : IntOp.cmpi .slt (IntOp.addi (BitVec.ofNat 32 b) (BitVec.ofNat 32 k.val)) 1024#32
      = if b + k.val < 1024 then 1#1 else 0#1 := by
    have : (BitVec.ofNat 32 b + BitVec.ofNat 32 k.val).slt 1024#32 = decide (b + k.val < 1024) := by
      rw [BitVec.slt, e2]; exact decide_eq_decide.2 (by change ((b + k.val : ℕ) : ℤ) < 1024 ↔ _; omega)
    by_cases h : b + k.val < 1024 <;> simp [IntOp.cmpi, IntOp.addi, this, h]
  pointwise [masked]
  rw [mask_val, c1, c2]
  by_cases h1 : i = 0 <;> by_cases h2 : b + k.val < 1024 <;> simp [Scalar.select, IntOp.andi, h1, h2]

end Cert.KernelIdeal.Attn

end
-- ==== Proof.AttnBlock.lean ====
/- What one grid step of the banded attention writes back: each of its sixteen chunks of 64 rows is read at an index,
   and the block has one formula. -/
module
public import proofs.«01_k».proof.Proof.Gen.KernelIdeal.Frame
public import proofs.«01_k».proof.Proof.AttnChunk
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

/-- Two blocks of 1024 rows, one above the other. -/
def rows2 (a b : FVec Ideal S1024x128 .f32) : FVec Ideal S1x2048x128 .bf16 := fun i =>
  if h : (i 1 : ℕ) < 1024 then a (ix2 ⟨i 1, h⟩ ⟨i 2, (i 2).isLt⟩)
  else b (ix2 ⟨(i 1 : ℕ) - 1024, by have := (i 1).isLt; change (i 1 : ℕ) < 2048 at this; omega⟩ ⟨i 2, (i 2).isLt⟩)

/-- The two stores of a scratch buffer lay the two blocks one above the other. -/
theorem buf_eq (a b : FVec Ideal S1024x128 .f32) :
    View.canon (Val := Elt Ideal) (s := S1x2048x128) (e := .bf16)
      [⟨Rect.unit ![0, 1024, 0] ![1, 1024, 128] inb_S1x2048x128_S1x1024x128_0_1024_0, k0_pay2 (F := Ideal) b⟩,
       ⟨Rect.unit ![0, 0, 0] ![1, 1024, 128] inb_S1x2048x128_S1x1024x128_0_0_0, k0_pay1 (F := Ideal) a⟩] = rows2 a b := by
  funext y
  canon_tiles x h
  · pointwise [k0_pay2, rows2, h1]
    exact congrArg (fun j => b (ix2 (x 1) j)) (Fin.ext h2.symm)
  · pointwise [k0_pay1, rows2]
    rw [dif_pos (by omega)]
    exact congrArg₂ (fun i j => a (ix2 i j)) (Fin.ext (by simp only; omega)) (Fin.ext h2.symm)

/-- A load from a buffer reads what its stores left there. -/
theorem load_eq {κ : Kind} {sp : Space} (v : View sig κ sp S1x2048x128 .bf16) (L : List (View.Piece (Elt Ideal) S1x2048x128 .bf16)) (r : Rect S1x2048x128) :
    v.readCov L r.toLoadRect = View.ld (View.canon L) r := by
  rw [View.readCov_eq_canon']

/-- The values are laid down as the keys are. -/
theorem pay3_eq : k0_pay3 (F := Ideal) = k0_pay1 := rfl
/-- The values are laid down as the keys are. -/
theorem pay4_eq : k0_pay4 (F := Ideal) = k0_pay2 := rfl

/-- The output block of step `w` of a stream from its queries, its two blocks of keys and of values and the sink column. -/
def blockOut (w : ℕ) (q : FVec Ideal S1024x256 .f32) (kb vb : FVec Ideal S1x2048x128 .bf16) (z : FVec Ideal S256x1 .f32)
    (r : Fin 1024) (l : Fin 256) : EReal :=
  attend
    (fun k => if w = 0 ∧ 896 + 64 * (r.val / 64) + k.val < 1024 then ⊥
      else ∑ d : Fin 64, q (ix2 r ⟨64 * (l.val / 64) + d.val, by omega⟩) * Ideal.ofBits .f32 0x3E000000#32
        * kb (ix3 0 ⟨896 + 64 * (r.val / 64) + k.val, by omega⟩ ⟨64 * (l.val / 128) + d.val, by omega⟩))
    (z (ix2 ⟨64 * (l.val / 64) + r.val % 64, by omega⟩ 0))
    (fun k => vb (ix3 0 ⟨896 + 64 * (r.val / 64) + k.val, by omega⟩ ⟨64 * (l.val / 128) + l.val % 64, by omega⟩))

/-- The query rows of the chunk that begins at row `o`. -/
abbrev qLoad (q : FVec Ideal S1024x256 .f32) (o : ℕ) (iq : ∀ a, ![o, 0] a + ![64, 256] a ≤ S1024x256.size a) : FVec Ideal S64x256 .f32 :=
  View.ld (Val := Elt Ideal) (S := S1024x256) (e' := .f32) q (Rect.unit ![o, 0] ![64, 256] iq)

/-- The 192 rows of keys, or of values, that begin at row `o`. -/
abbrev kLoad (x : FVec Ideal S1x2048x128 .bf16) (o : ℕ) (ik : ∀ a, ![0, o, 0] a + ![1, 192, 128] a ≤ S1x2048x128.size a) : FVec Ideal S1x192x128 .bf16 :=
  View.ld (Val := Elt Ideal) (S := S1x2048x128) (e' := .bf16) x (Rect.unit ![0, o, 0] ![1, 192, 128] ik)

section chunk
variable (q : FVec Ideal S1024x256 .f32) (kb vb : FVec Ideal S1x2048x128 .bf16) (z : FVec Ideal S256x1 .f32)
  (o o' : ℕ) (iq : ∀ a, ![o, 0] a + ![64, 256] a ≤ S1024x256.size a) (ik : ∀ a, ![0, o', 0] a + ![1, 192, 128] a ≤ S1x2048x128.size a)

/-- The chunk's scores, from the block's operands. -/
theorem block_scores (ho : o % 64 = 0) (ho' : o' = 896 + o) (r : Fin 1024) (l : Fin 256) (u : Fin 64) (hr : r.val = o + u.val) (k : Fin 192) :
    scores (qLoad q o iq) (kLoad kb o' ik)
        (ix2 ⟨64 * (l.val / 64) + u.val, by omega⟩ k)
      = ∑ d : Fin 64, q (ix2 r ⟨64 * (l.val / 64) + d.val, by omega⟩) * Ideal.ofBits .f32 0x3E000000#32
        * kb (ix3 0 ⟨896 + 64 * (r.val / 64) + k.val, by omega⟩ ⟨64 * (l.val / 128) + d.val, by omega⟩) := by
  rw [scores_at]
  refine Finset.sum_congr rfl fun d _ => ?_
  refine congrArg₂ (fun a b : EReal => a * _ * b) (?_ : q _ = q _) (?_ : kb _ = kb _)
  · refine congrArg q (funext fun a => Fin.ext ?_)
    match a with
    | 0 => show o + 1 * ((64 * (l.val / 64) + u.val) % 64) = r.val; omega
    | 1 => show 0 + 1 * (64 * ((64 * (l.val / 64) + u.val) / 64) + d.val) = 64 * (l.val / 64) + d.val; omega
  · refine congrArg kb (funext fun a => Fin.ext ?_)
    match a with
    | 0 => rfl
    | 1 => show o' + 1 * k.val = 896 + 64 * (r.val / 64) + k.val; omega
    | 2 => show 0 + 1 * (64 * ((64 * (l.val / 64) + u.val) / 128) + d.val) = 64 * (l.val / 128) + d.val; omega

/-- A chunk of the block whose scores are known. -/
theorem block_chunk (w : ℕ) (ho : o % 64 = 0) (ho' : o' = 896 + o) (y : S1024x256.Idx) (x : S64x256.Idx)
    (h0 : (y 0 : ℕ) = o + (x 0 : ℕ)) (h1 : (y 1 : ℕ) = (x 1 : ℕ)) (s : FVec Ideal S256x192 .f32)
    (hs : ∀ (R : Fin 256) (k : Fin 192), s (ix2 R k) = if w = 0 ∧ o' + k.val < 1024 then ⊥ else
      scores (qLoad q o iq) (kLoad kb o' ik) (ix2 R k)) :
    chunkOut z s (kLoad vb o' ik) x = blockOut w q kb vb z (y 0) (y 1) := by
  obtain ⟨u, l, rfl⟩ : ∃ (u : Fin 64) (l : Fin 256), x = ix2 u l := ⟨x 0, x 1, eq_ix2 x⟩
  obtain ⟨r, l', rfl⟩ : ∃ (r : Fin 1024) (l : Fin 256), y = ix2 r l := ⟨y 0, y 1, eq_ix2 y⟩
  have h0 : r.val = o + u.val := h0
  obtain rfl : l' = l := Fin.ext h1
  rw [chunkOut_at]
  show _ = blockOut w q kb vb z r l'
  unfold blockOut
  congr 1
  · funext k
    rw [hs, block_scores q kb o o' iq ik ho ho' r l' u h0 k]
    exact if_congr (by constructor <;> rintro ⟨a, b⟩ <;> exact ⟨a, by omega⟩) rfl rfl
  · refine congrArg z ((ix2_inj ..).2 ⟨Fin.ext ?_, rfl⟩)
    simp only; omega
  · funext k
    show vb _ = vb _
    refine congrArg vb (funext fun a => Fin.ext ?_)
    match a with
    | 0 => rfl
    | 1 => show o' + 1 * k.val = 896 + 64 * (r.val / 64) + k.val; omega
    | 2 => show 0 + 1 * (64 * (l'.val / 128) + l'.val % 64) = 64 * (l'.val / 128) + l'.val % 64; omega

/-- A chunk none of whose keys is before the stream's start. -/
theorem block_plain (w : ℕ) (ho : o % 64 = 0) (ho' : o' = 896 + o) (hp : 1024 ≤ o') (y : S1024x256.Idx) (x : S64x256.Idx)
    (h0 : (y 0 : ℕ) = o + (x 0 : ℕ)) (h1 : (y 1 : ℕ) = (x 1 : ℕ)) :
    chunkOut z (scores (qLoad q o iq) (kLoad kb o' ik))
        (kLoad vb o' ik) x = blockOut w q kb vb z (y 0) (y 1) :=
  block_chunk q kb vb z o o' iq ik w ho ho' y x h0 h1 _ fun R k => by rw [if_neg (by omega)]

/-- A chunk with the mask. -/
theorem block_masked (w : ℕ) (hw : w < 8) (ho : o % 64 = 0) (ho' : o' = 896 + o) (hp : o' < 1024) (y : S1024x256.Idx) (x : S64x256.Idx)
    (h0 : (y 0 : ℕ) = o + (x 0 : ℕ)) (h1 : (y 1 : ℕ) = (x 1 : ℕ)) :
    chunkOut z (masked (BitVec.ofNat 32 w) (BitVec.ofNat 32 o')
        (scores (qLoad q o iq) (kLoad kb o' ik)))
        (kLoad vb o' ik) x = blockOut w q kb vb z (y 0) (y 1) :=
  block_chunk q kb vb z o o' iq ik w ho ho' y x h0 h1 _ fun R k => masked_at w o' hw hp _ R k
end chunk

set_option maxHeartbeats 2000000 in
/-- What a grid step writes back, at an index of its block. -/
theorem block_at (c : Dev nD) (t : Fin cfg0.N) (y : S1024x256.Idx) :
    outsAt0 m c t y = blockOut (grid0.coords t 1).val (iblk m c 0 t) (rows2 (iblk m c 1 t) (iblk m c 2 t))
      (rows2 (iblk m c 3 t) (iblk m c 4 t)) (iblk m c 5 t) (y 0) (y 1) := by
  unfold outsAt0
  frame_open
  frame_out
  have hk := buf_eq (iblk m c 1 t) (iblk m c 2 t)
  have hv := buf_eq (iblk m c 3 t) (iblk m c 4 t)
  have hw : (grid0.coords t 1).val < 8 := (grid0.coords t 1).isLt
  generalize rows2 (iblk m c 1 t) (iblk m c 2 t) = kb at hk ⊢
  generalize rows2 (iblk m c 3 t) (iblk m c 4 t) = vb at hv ⊢
  simp only [load_eq, pay3_eq, pay4_eq, hk, hv]
  clear hk hv
  generalize iblk m c 0 t = q
  generalize iblk m c 5 t = sk
  generalize (grid0.coords t 1).val = w at hw ⊢
  canon_tiles x h
  all_goals
    first
      | refine Eq.trans ?_ (block_plain q kb vb sk _ _ (by decide) (by decide) w (by decide) rfl (by decide) y x h0 h1)
      | refine Eq.trans ?_ (block_masked q kb vb sk _ _ (by decide) (by decide) w hw (by decide) rfl (by decide) y x h0 h1)
      | refine Eq.trans ?_ (block_masked q kb vb sk 0 _ (by decide) (by decide) w hw (by decide) rfl (by decide) y x (h0.trans (Nat.zero_add _).symm) h1)
    clear h0 x0_lt h1 x1_lt hw
    unfold chunkOut scores qLoad kLoad
    simp only [Nat.reduceAdd]
    generalize View.ld (Val := Elt Ideal) (e' := .f32) q _ = Q
    generalize View.ld (Val := Elt Ideal) (e' := .bf16) kb _ = K
    generalize View.ld (Val := Elt Ideal) (e' := .bf16) vb _ = V
    generalize k0_pay5 sk = Z
    generalize k0_pay6 = G
    try unfold masked
    open_payloads
    try symm
    try open_payloads
    try rfl
end Cert.KernelIdeal.Attn
end
-- ==== Proof.AttnArray.lean ====
/- The array that the banded attention writes, at an index: the blocks of the grid's sixteen steps tile it. -/
module

public import proofs.«01_k».proof.Proof.Gen.KernelIdeal.Value
public import proofs.«01_k».proof.Proof.AttnBlock

@[expose] public section
set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

/-- The banded attention from its queries, keys, values and sinks, at output row `r`, lane `l`: the row's chunk of 64 rows
    sees the 192 keys that end with the chunk, those before the start of its stream of 8192 rows masked. -/
def attnAt (q : FVec Ideal S17408x256 .f32) (k v : FVec Ideal S17408x128 .f32) (a : FVec Ideal S4 .f32)
    (r : Fin 16384) (l : Fin 256) : EReal :=
  attend
    (fun e => if r.val % 8192 / 64 * 64 + e.val < 128 then ⊥
      else ∑ d : Fin 64, q (ix2 ⟨r.val, by omega⟩ ⟨64 * (l.val / 64) + d.val, by omega⟩) * Ideal.ofBits .f32 0x3E000000#32
        * k (ix2 ⟨r.val / 64 * 64 + e.val - 128, by omega⟩ ⟨64 * (l.val / 128) + d.val, by omega⟩))
    (a (ix1 ⟨l.val / 64, by omega⟩))
    (fun e => if r.val % 8192 / 64 * 64 + e.val < 128 then 0
      else v (ix2 ⟨r.val / 64 * 64 + e.val - 128, by omega⟩ ⟨64 * (l.val / 128) + l.val % 64, by omega⟩))

/-- A value whose score is the least extended real does not matter. -/
theorem attend_congr (s s' : Fin 192 → EReal) (z z' : EReal) (v v' : Fin 192 → EReal) (hs : ∀ k, s k = s' k) (hz : z = z')
    (hv : ∀ k, s k = ⊥ ∨ v k = v' k) : attend s z v = attend s' z' v' := by
  obtain rfl : s = s' := funext hs
  subst hz
  have h : ∀ x : EReal, ∀ k, Ideal.exp (s k - x) * v k = Ideal.exp (s k - x) * v' k := fun x k => by
    rcases hv k with e | e
    · have : s k - x = ⊥ := by rw [e, sub_eq_add_neg, EReal.bot_add]
      rw [this]
      show (0 : EReal) * _ = 0 * _
      rw [zero_mul, zero_mul]
    · rw [e]
  unfold attend
  simp only [h]

/-- Where each window's block lies at each grid step. -/
theorem idx : ∀ t : Fin cfg0.N, (grid0.coords t 1).val = t.val % 8 ∧ win0_0.index t = ![t.val, 0]
    ∧ win0_1.index t = ![t.val / 8 * 8 + (t.val % 8 - 1), 0] ∧ win0_2.index t = ![t.val, 0]
    ∧ win0_3.index t = ![t.val / 8 * 8 + (t.val % 8 - 1), 0] ∧ win0_4.index t = ![t.val, 0]
    ∧ win0_5.index t = ![0, 0] ∧ win0_6.index t = ![t.val, 0] := (by decide +kernel : ∀ t : Fin grid0.N, _)

theorem q_at (c : Dev nD) (t : Fin cfg0.N) (r : Fin 1024) (l : Fin 256) (i : Fin 17408) (h : i.val = 1024 * t.val + r.val) :
    iblk m c 0 t (ix2 r l) = m ((c : Thread nD τ).loc main_arg0) (ix2 i l) := by
  blk_ext [iblk, V, idx t]

theorem k_prev_at (c : Dev nD) (t : Fin cfg0.N) (r : Fin 1024) (l : Fin 128) (i : Fin 17408)
    (h : i.val = 1024 * (t.val / 8 * 8 + (t.val % 8 - 1)) + r.val) :
    iblk m c 1 t (ix2 r l) = m ((c : Thread nD τ).loc main_arg1) (ix2 i l) := by
  blk_ext [iblk, V, idx t]

theorem k_cur_at (c : Dev nD) (t : Fin cfg0.N) (r : Fin 1024) (l : Fin 128) (i : Fin 17408) (h : i.val = 1024 * t.val + r.val) :
    iblk m c 2 t (ix2 r l) = m ((c : Thread nD τ).loc main_arg1) (ix2 i l) := by
  blk_ext [iblk, V, idx t]

theorem v_prev_at (c : Dev nD) (t : Fin cfg0.N) (r : Fin 1024) (l : Fin 128) (i : Fin 17408)
    (h : i.val = 1024 * (t.val / 8 * 8 + (t.val % 8 - 1)) + r.val) :
    iblk m c 3 t (ix2 r l) = m ((c : Thread nD τ).loc main_arg2) (ix2 i l) := by
  blk_ext [iblk, V, idx t]

theorem v_cur_at (c : Dev nD) (t : Fin cfg0.N) (r : Fin 1024) (l : Fin 128) (i : Fin 17408) (h : i.val = 1024 * t.val + r.val) :
    iblk m c 4 t (ix2 r l) = m ((c : Thread nD τ).loc main_arg2) (ix2 i l) := by
  blk_ext [iblk, V, idx t]

theorem z_at (c : Dev nD) (t : Fin cfg0.N) (R : Fin 256) (i : Fin 4) (h : i.val = R.val / 64) :
    iblk m c 5 t (ix2 R 0) = m ((c : Thread nD τ).loc main_arg3) (ix1 i) := by
  blk_simp [iblk, idx t]
  entry_read
  pointwise
  blk_ext [idx t]

/-- The keys, or the values, of a step's two blocks are the array's rows that end with the step's. -/
theorem band_at (x : FVec Ideal S17408x128 .f32) (a b : FVec Ideal S1024x128 .f32) (t : ℕ) (ht : t < 16)
    (ha : ∀ (r : Fin 1024) (l : Fin 128) (i : Fin 17408), i.val = 1024 * (t / 8 * 8 + (t % 8 - 1)) + r.val → a (ix2 r l) = x (ix2 i l))
    (hb : ∀ (r : Fin 1024) (l : Fin 128) (i : Fin 17408), i.val = 1024 * t + r.val → b (ix2 r l) = x (ix2 i l))
    (e : Fin 2048) (l : Fin 128) (hm : ¬(t % 8 = 0 ∧ e.val < 1024)) (i : Fin 17408) (h : i.val + 1024 = 1024 * t + e.val) :
    rows2 a b (ix3 0 e l) = x (ix2 i l) := by
  unfold rows2
  split
  · next h' => exact ha _ _ _ (by have h' : e.val < 1024 := h'; show i.val = _ + e.val; omega)
  · next h' => exact hb _ _ _ (by have h' : ¬ e.val < 1024 := h'; show i.val = _ + (e.val - 1024); omega)

/-- A step's block is its rows of the array. -/
theorem block_array (c : Dev nD) (t : Fin cfg0.N) (ht : t.val < 16) (r : Fin 1024) (l : Fin 256) (i : Fin 16384) (l' : Fin 256)
    (e0 : i.val = 1024 * t.val + r.val) (e1 : l'.val = l.val) :
    blockOut (t.val % 8) (iblk m c 0 t) (rows2 (iblk m c 1 t) (iblk m c 2 t)) (rows2 (iblk m c 3 t) (iblk m c 4 t))
        (iblk m c 5 t) r l
      = attnAt (m ((c : Thread nD τ).loc main_arg0)) (m ((c : Thread nD τ).loc main_arg1))
        (m ((c : Thread nD τ).loc main_arg2)) (m ((c : Thread nD τ).loc main_arg3)) i l' := by
  obtain rfl : l' = l := Fin.ext e1
  unfold blockOut attnAt
  have hm : ∀ e : Fin 192, (t.val % 8 = 0 ∧ 896 + 64 * (r.val / 64) + e.val < 1024) ↔ i.val % 8192 / 64 * 64 + e.val < 128 := by
    intro e; constructor
    · rintro ⟨a, b⟩; omega
    · intro a; exact ⟨by omega, by omega⟩
  refine attend_congr _ _ _ _ _ _ (fun e => ?_) ?_ (fun e => ?_)
  · simp only [hm e]
    split
    · rfl
    · next h =>
      refine Finset.sum_congr rfl fun d _ => ?_
      rw [q_at m c t r _ ⟨i.val, by omega⟩ e0,
        band_at (m ((c : Thread nD τ).loc main_arg1)) _ _ t.val ht (k_prev_at m c t) (k_cur_at m c t) _ _ (fun h' => h ((hm e).1 h'))
          ⟨i.val / 64 * 64 + e.val - 128, by omega⟩ (by simp only; omega)]
  · exact z_at m c t _ _ (by simp only; omega)
  · by_cases h : i.val % 8192 / 64 * 64 + e.val < 128
    · left; rw [if_pos ((hm e).2 h)]
    · right; rw [if_neg h]
      exact band_at (m ((c : Thread nD τ).loc main_arg2)) _ _ t.val ht (v_prev_at m c t) (v_cur_at m c t) _ _ (fun h' => h ((hm e).1 h'))
          ⟨i.val / 64 * 64 + e.val - 128, by omega⟩ (by simp only; omega)

/-- The array after the run. -/
theorem final (c : Dev nD) : (dats m 0 c).arrAt 6 cfg0.N
    = fun i : S16384x256.Idx => attnAt (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 6 _ (by decide +kernel) fun t hf y => ?_
  have ht : t.val < 16 := t.isLt
  obtain ⟨h1, -, -, -, -, -, -, h6⟩ := idx t
  blk_simp
  rw [after0_6, block_at, h1]
  have e0 : ((win0_6.blk t).view.emb y 0 : ℕ) = 1024 * t.val + (y 0 : ℕ) := by blk_simp [h6]; omega
  have e1 : ((win0_6.blk t).view.emb y 1 : ℕ) = (y 1 : ℕ) := by blk_simp [h6]
  generalize ((win0_6.blk t).view.emb y) = i at e0 e1 ⊢
  exact block_array m c t ht (y 0) (y 1) (i 0) (i 1) e0 e1
end Cert.KernelIdeal.Attn

end
-- ==== Proof.AttnReference.lean ====
/- The plain attention, read at an index: each row's scores against the 192 keys of its band, its weights with the sink in
   their sum, and the values they mix. -/
module

public import proofs.«01_k».proof.Proof.Gen.ReferenceIdeal.Run
public import Idealize.ShloMosaic.Lib.Pointwise
public import Idealize.ShloMosaic.Lib.IdealHost

@[expose] public section
set_option maxRecDepth 16384
noncomputable section
open Idealize.ShloMosaic Idealize.ShloMosaic.TcCoe Idealize.SL.Sem Idealize.ShloMosaic.StableHlo
namespace Cert.ReferenceIdeal.Attn
open Cert.ReferenceIdeal Cert.ReferenceIdeal.Gen

/-- The keys, or the values, of each stream in chunks, behind two chunks of zeros. -/
def padded (x : FVec Ideal S17408x128 .f32) : FVec Ideal S2x130x64x2x64 .f32 :=
  pad S2x130x64x2x64 ![0, 2, 0, 0, 0] ![0, 0, 0, 0, 0] ![0, 0, 0, 0, 0] (shapeCast _ (shapeCast _ (extractStridedSlice S16384x128 ![0, 0] x slices_S17408x128_S16384x128_0_0) shapeCasts_S16384x128_S2x8192x2x64) shapeCasts_S2x8192x2x64_S2x128x64x2x64) (sitofp .f32 (constantI S_ 32 0#32)) pads_S2x128x64x2x64_S2x130x64x2x64_000_200_000_000_000 h_S_

/-- Each chunk's 192 keys, or values: the two chunks before it and its own. -/
def band (x : FVec Ideal S17408x128 .f32) : FVec Ideal S2x128x192x2x64 .f32 :=
  shapeCast _ ((concatenate S2x128x3x64x2x64 2 [⟨S2x128x1x64x2x64, ((broadcastInDim S2x128x1x64x2x64 ![0, 1, 3, 4, 5] bcast_S2x128x64x2x64_S2x128x1x64x2x64_0_1_3_4_5 (extractStridedSlice S2x128x64x2x64 ![0, 0, 0, 0, 0] (padded x) slices_S2x130x64x2x64_S2x128x64x2x64_0_0_0_0_0)) : (⟨S2x128x1x64x2x64, .f32⟩ : BufTy).Contents (Elt Ideal))⟩, ⟨S2x128x1x64x2x64, ((broadcastInDim S2x128x1x64x2x64 ![0, 1, 3, 4, 5] bcast_S2x128x64x2x64_S2x128x1x64x2x64_0_1_3_4_5 (extractStridedSlice S2x128x64x2x64 ![0, 1, 0, 0, 0] (padded x) slices_S2x130x64x2x64_S2x128x64x2x64_0_1_0_0_0)) : (⟨S2x128x1x64x2x64, .f32⟩ : BufTy).Contents (Elt Ideal))⟩, ⟨S2x128x1x64x2x64, ((broadcastInDim S2x128x1x64x2x64 ![0, 1, 3, 4, 5] bcast_S2x128x64x2x64_S2x128x1x64x2x64_0_1_3_4_5 (extractStridedSlice S2x128x64x2x64 ![0, 2, 0, 0, 0] (padded x) slices_S2x130x64x2x64_S2x128x64x2x64_0_2_0_0_0)) : (⟨S2x128x1x64x2x64, .f32⟩ : BufTy).Contents (Elt Ideal))⟩] concatenates_S2x128x1x64x2x64_S2x128x1x64x2x64_S2x128x1x64x2x64_S2x128x3x64x2x64_d2 : (⟨S2x128x3x64x2x64, .f32⟩ : BufTy).Contents (Elt Ideal))) shapeCasts_S2x128x3x64x2x64_S2x128x192x2x64

/-- The inner products of queries and keys. -/
def products (q : FVec Ideal S17408x256 .f32) (k : FVec Ideal S17408x128 .f32) : FVec Ideal S2x128x2x192x64x2 .f32 :=
  Host.dotGeneral dot_S2x128x192x2x64_S2x128x64x2x2x64_S2x128x2x192x64x2_4_5_2_24_013_013 none (band k) (shapeCast _ (shapeCast _ (extractStridedSlice S16384x256 ![0, 0] q slices_S17408x256_S16384x256_0_0) shapeCasts_S16384x256_S2x8192x2x2x64) shapeCasts_S2x8192x2x2x64_S2x128x64x2x2x64)

/-- Which keys lie in the stream. -/
def keyMask : Vec Ideal S2x128x2x2x64x192 .i1 :=
  broadcastInDim S2x128x2x2x64x192 ![0, 1, 2, 3, 4, 5] bcast_S1x128x1x1x1x192_S2x128x2x2x64x192_0_1_2_3_4_5 (broadcastInDim S1x128x1x1x1x192 ![1, 5] bcast_S128x192_S1x128x1x1x1x192_1_5 (cmpi .sge (addi (broadcastInDim S128x192 ![0, 1] bcast_S128x1_S128x192_0_1 (muli (subi (broadcastInDim S128x1 ![0] bcast_S128_S128x1_0 (iotaInDim S128 32 0)) (broadcastInDim S128x1 ![] bcast_S_S128x1 (constantI S_ 32 2#32))) (broadcastInDim S128x1 ![] bcast_S_S128x1 (constantI S_ 32 64#32)))) (broadcastInDim S128x192 ![0, 1] bcast_S1x192_S128x192_0_1 (broadcastInDim S1x192 ![1] bcast_S192_S1x192_1 (iotaInDim S192 32 0)))) (broadcastInDim S128x192 ![] bcast_S_S128x192 (constantI S_ 32 0#32))))

/-- The scaled products, the least extended real at the keys before the stream's start. -/
def scores (q : FVec Ideal S17408x256 .f32) (k : FVec Ideal S17408x128 .f32) : FVec Ideal S2x128x2x2x64x192 .f32 :=
  select keyMask (mulf (transpose S2x128x2x2x64x192 [0, 1, 2, 5, 4, 3] (products q k) transposes_S2x128x2x192x64x2_S2x128x2x2x64x192_0_1_2_5_4_3) (broadcastInDim S2x128x2x2x64x192 ![] bcast_S_S2x128x2x2x64x192 (constant S_ .f32 0x3E000000#32))) (broadcastInDim S2x128x2x2x64x192 ![] bcast_S_S2x128x2x2x64x192 (id (constant S_ .f32 0xFF800000#32)))

/-- Each head's sink. -/
def sinks (a : FVec Ideal S4 .f32) : FVec Ideal S2x128x2x2x64x1 .f32 :=
  broadcastInDim S2x128x2x2x64x1 ![0, 1, 2, 3, 4, 5] bcast_S1x1x2x2x1x1_S2x128x2x2x64x1_0_1_2_3_4_5 (broadcastInDim S1x1x2x2x1x1 ![2, 3] bcast_S2x2_S1x1x2x2x1x1_2_3 (shapeCast _ a shapeCasts_S4_S2x2))

/-- The greatest of a row's scores. -/
def rowMax (q : FVec Ideal S17408x256 .f32) (k : FVec Ideal S17408x128 .f32) : FVec Ideal S2x128x2x2x64 .f32 :=
  Host.reduce FloatOps.maximumf (scores q k) (constant S_ .f32 0xFF800000#32) reducesTo_S2x128x2x2x64x192_S2x128x2x2x64_d5 h_S_

/-- The greatest of a row's scores and its sink. -/
def top (q : FVec Ideal S17408x256 .f32) (k : FVec Ideal S17408x128 .f32) (a : FVec Ideal S4 .f32) : FVec Ideal S2x128x2x2x64x1 .f32 :=
  maximumf (broadcastInDim S2x128x2x2x64x1 ![0, 1, 2, 3, 4] bcast_S2x128x2x2x64_S2x128x2x2x64x1_0_1_2_3_4 (rowMax q k)) (sinks a)

/-- The weights before division. -/
def weights (q : FVec Ideal S17408x256 .f32) (k : FVec Ideal S17408x128 .f32) (a : FVec Ideal S4 .f32) : FVec Ideal S2x128x2x2x64x192 .f32 :=
  Host.exp (subf (scores q k) (broadcastInDim S2x128x2x2x64x192 ![0, 1, 2, 3, 4, 5] bcast_S2x128x2x2x64x1_S2x128x2x2x64x192_0_1_2_3_4_5 (top q k a)))

/-- The sum of a row's weights. -/
def rowSum (q : FVec Ideal S17408x256 .f32) (k : FVec Ideal S17408x128 .f32) (a : FVec Ideal S4 .f32) : FVec Ideal S2x128x2x2x64 .f32 :=
  Host.reduceAdd (weights q k a) (constant S_ .f32 0x00000000#32) reducesTo_S2x128x2x2x64x192_S2x128x2x2x64_d5 h_S_

/-- The sum of a row's weights and its sink's. -/
def total (q : FVec Ideal S17408x256 .f32) (k : FVec Ideal S17408x128 .f32) (a : FVec Ideal S4 .f32) : FVec Ideal S2x128x2x2x64x1 .f32 :=
  addf (broadcastInDim S2x128x2x2x64x1 ![0, 1, 2, 3, 4] bcast_S2x128x2x2x64_S2x128x2x2x64x1_0_1_2_3_4 (rowSum q k a)) (Host.exp (subf (sinks a) (top q k a)))

/-- The mixed values, head by head. -/
def mixed (q : FVec Ideal S17408x256 .f32) (k : FVec Ideal S17408x128 .f32) (v : FVec Ideal S17408x128 .f32) (a : FVec Ideal S4 .f32) : FVec Ideal S2x128x2x64x2x64 .f32 :=
  Host.dotGeneral dot_S2x128x192x2x64_S2x128x2x2x64x192_S2x128x2x64x2x64_2_5_4_34_013_012 none (band v) (Host.divf (weights q k a) (broadcastInDim S2x128x2x2x64x192 ![0, 1, 2, 3, 4, 5] bcast_S2x128x2x2x64x1_S2x128x2x2x64x192_0_1_2_3_4_5 (total q k a)))

/-- The output array. -/
def out (q : FVec Ideal S17408x256 .f32) (k : FVec Ideal S17408x128 .f32) (v : FVec Ideal S17408x128 .f32) (a : FVec Ideal S4 .f32) : FVec Ideal S16384x256 .f32 :=
  shapeCast _ (transpose S2x128x64x2x2x64 [0, 1, 5, 2, 4, 3] (mixed q k v a) transposes_S2x128x2x64x2x64_S2x128x64x2x2x64_0_1_5_2_4_3) shapeCasts_S2x128x64x2x2x64_S16384x256
/-- A chunk-wise array at an index of the padded one: zero in the two chunks before the stream. -/
theorem padded_at (x : FVec Ideal S17408x128 .f32) (b : Fin 2) (n : Fin 130) (i : Fin 64) (h : Fin 2) (d : Fin 64) :
    padded x (ix5 b n i h d) = if n.val < 2 then 0
      else x (ix2 ⟨8192 * b.val + 64 * (n.val - 2) + i.val, by omega⟩ ⟨64 * h.val + d.val, by omega⟩) := by
  pointwise [padded]
  by_cases hn : n.val < 2
  · rw [dif_neg (by omega), if_pos hn]
    show ((((0#32 : BitVec 32).toInt : ℤ) : ℝ) : EReal) = 0
    simp
  · rw [dif_pos (by omega), if_neg hn]
    exact congrArg₂ (fun i j => x (ix2 i j)) (Fin.ext (by simp only; omega)) (Fin.ext (by simp only; omega))

/-- Row `e` of a chunk's band. -/
theorem band_at (x : FVec Ideal S17408x128 .f32) (b : Fin 2) (n : Fin 128) (e : Fin 192) (h : Fin 2) (d : Fin 64) :
    band x (ix5 b n e h d) = if 64 * n.val + e.val < 128 then 0
      else x (ix2 ⟨8192 * b.val + 64 * n.val + e.val - 128, by omega⟩ ⟨64 * h.val + d.val, by omega⟩) := by
  have key : band x (ix5 b n e h d) = padded x (ix5 b ⟨n.val + e.val / 64, by omega⟩ ⟨e.val % 64, by omega⟩ h d) := by
    pointwise [band]
    have he : e.val / 64 = 0 ∨ e.val / 64 = 1 ∨ e.val / 64 = 2 := by omega
    rcases he with h0 | h0 | h0
    · rw [dif_pos (by omega)]
      exact congrArg (fun n => padded x (ix5 b n _ h d)) (Fin.ext (by simp only; omega))
    · rw [dif_neg (by omega), dif_pos (by omega)]
      exact congrArg (fun n => padded x (ix5 b n _ h d)) (Fin.ext (by simp only; omega))
    · rw [dif_neg (by omega), dif_neg (by omega)]
      exact congrArg (fun n => padded x (ix5 b n _ h d)) (Fin.ext (by simp only; omega))
  rw [key, padded_at]
  by_cases hm : 64 * n.val + e.val < 128
  · rw [if_pos hm, if_pos (by simp only; omega)]
  · rw [if_neg hm, if_neg (by simp only; omega)]
    exact congrArg (fun i => x (ix2 i _)) (Fin.ext (by simp only; omega))

theorem products_at (q : FVec Ideal S17408x256 .f32) (k : FVec Ideal S17408x128 .f32) (b : Fin 2) (n : Fin 128) (h : Fin 2)
    (e : Fin 192) (i : Fin 64) (g : Fin 2) :
    products q k (ix6 b n h e i g)
      = ∑ d : Fin 64, band k (ix5 b n e h d) * q (ix2 ⟨8192 * b.val + 64 * n.val + i.val, by omega⟩ ⟨128 * h.val + 64 * g.val + d.val, by omega⟩) := by
  pointwise [products]
  exact Finset.sum_congr rfl fun d _ => congrArg₂ (fun i j => band k (ix5 b n e h d) * q (ix2 i j)) (Fin.ext (by simp only; omega)) (Fin.ext (by simp only; omega))

/-- The mask: key `e` of chunk `n` lies in the stream. -/
theorem keyMask_at (b : Fin 2) (n : Fin 128) (h g : Fin 2) (i : Fin 64) (e : Fin 192) :
    keyMask (ix6 b n h g i e) = if 64 * n.val + e.val < 128 then 0#1 else 1#1 := by
  pointwise [keyMask]
  have e1 : ((BitVec.ofNat 32 n.val - 2#32) * 64#32 + BitVec.ofNat 32 e.val).toInt = 64 * (n.val : ℤ) + e.val - 128 := by
    rw [BitVec.toInt_eq_toNat_cond]
    simp only [BitVec.toNat_add, BitVec.toNat_mul, BitVec.toNat_sub, BitVec.toNat_ofNat]
    split <;> omega
  have e2 := IntOp.cmpi_sge (x := (BitVec.ofNat 32 n.val - 2#32) * 64#32 + BitVec.ofNat 32 e.val) (y := 0#32)
  rw [e1] at e2
  have e3 : (0#32 : BitVec 32).toInt = 0 := by decide
  rw [e3] at e2
  show IntOp.cmpi .sge ((BitVec.ofNat 32 n.val - 2#32) * 64#32 + BitVec.ofNat 32 e.val) 0#32 = _
  by_cases hm : 64 * n.val + e.val < 128
  · rw [if_pos hm]
    have := mt e2.1 (by omega)
    generalize IntOp.cmpi .sge ((BitVec.ofNat 32 n.val - 2#32) * 64#32 + BitVec.ofNat 32 e.val) 0#32 = w at this
    revert w; decide
  · rw [if_neg hm]; exact e2.2 (by omega)

/-- A masked array at an index. -/
theorem masked_at (w : Vec Ideal S2x128x2x2x64x192 .i1) (x : FVec Ideal S2x128x2x192x64x2 .f32) (z : FVec Ideal S_ .f32)
   (b : Fin 2) (n : Fin 128) (h g : Fin 2) (i : Fin 64) (e : Fin 192)  :
    (select w (mulf (transpose S2x128x2x2x64x192 [0, 1, 2, 5, 4, 3] x transposes_S2x128x2x192x64x2_S2x128x2x2x64x192_0_1_2_5_4_3) (broadcastInDim S2x128x2x2x64x192 ![] bcast_S_S2x128x2x2x64x192 (constant S_ .f32 0x3E000000#32))) (broadcastInDim S2x128x2x2x64x192 ![] bcast_S_S2x128x2x2x64x192 z) : FVec Ideal S2x128x2x2x64x192 .f32) (ix6 b n h g i e)
      = Scalar.select (w (ix6 b n h g i e)) (x (ix6 b n h e i g) * Ideal.ofBits .f32 0x3E000000#32) (z ix0) := by
  pointwise

/-- A score: the scaled product, or the least extended real at a key before the stream's start. -/
theorem scores_at (q : FVec Ideal S17408x256 .f32) (k : FVec Ideal S17408x128 .f32)
   (b : Fin 2) (n : Fin 128) (h g : Fin 2) (i : Fin 64) (e : Fin 192)  :
    scores q k (ix6 b n h g i e) = if 64 * n.val + e.val < 128 then ⊥ else products q k (ix6 b n h e i g) * Ideal.ofBits .f32 0x3E000000#32 := by
  have e0 : (id (constant S_ FTy.f32 0xFF800000#32) : FVec Ideal S_ .f32) ix0 = ⊥ := by
    show Ideal.ofBits .f32 0xFF800000#32 = ⊥
    simp [Ideal.ofBits, Ideal.ieee]
  refine (masked_at keyMask (products q k) _ b n h g i e).trans ?_
  rw [keyMask_at, e0]
  generalize products q k (ix6 b n h e i g) * Ideal.ofBits .f32 0x3E000000#32 = p
  split <;> simp [Scalar.select]

theorem sinks_at (a : FVec Ideal S4 .f32) (b : Fin 2) (n : Fin 128) (h g : Fin 2) (i : Fin 64) :
    sinks a (ix6 b n h g i 0) = a (ix1 ⟨2 * h.val + g.val, by omega⟩) := by
  pointwise [sinks]
  exact congrArg (fun i => a (ix1 i)) (Fin.ext (by simp only; omega))

theorem reduces_row : S2x128x2x2x64x192.Reduces [5] S2x128x2x2x64 := by decide

/-- The indices of a row: its key coordinate inserted. -/
theorem row_lift (b : Fin 2) (n : Fin 128) (h g : Fin 2) (i : Fin 64) (e : Fin 192) :
    reduces_row.lift (ix5 b n h g i) e = ix6 b n h g i e := by
  funext c
  refine Fin.ext ?_
  show reduces_row.liftVal (ix5 b n h g i) e.val c = _
  match c with
  | 0 => rfl
  | 1 => rfl
  | 2 => rfl
  | 3 => rfl
  | 4 => rfl
  | 5 => rfl

/-- A fold of maxima along a row. -/
theorem reduceMax_at (x : FVec Ideal S2x128x2x2x64x192 .f32) (z : FVec Ideal S_ .f32) (b : Fin 2) (n : Fin 128) (h g : Fin 2) (i : Fin 64) :
    (Host.reduce (FloatOps.maximumf (F := Ideal) (φ := .f32)) x z reducesTo_S2x128x2x2x64x192_S2x128x2x2x64_d5 h_S_ : FVec Ideal S2x128x2x2x64 .f32) (ix5 b n h g i)
      = Finset.univ.fold max (z (Shape.Idx.first h_S_)) fun e : Fin 192 => x (ix6 b n h g i e) := by
  rw [Host.reduce_eq_fold_single _ _ _ _ reduces_row]
  exact congrArg (fun f => Finset.univ.fold max _ f) (funext fun e => congrArg x (row_lift b n h g i e))

/-- A sum along a row. -/
theorem reduceAdd_at (x : FVec Ideal S2x128x2x2x64x192 .f32) (z : FVec Ideal S_ .f32) (b : Fin 2) (n : Fin 128) (h g : Fin 2) (i : Fin 64) :
    (Host.reduceAdd x z reducesTo_S2x128x2x2x64x192_S2x128x2x2x64_d5 h_S_ : FVec Ideal S2x128x2x2x64 .f32) (ix5 b n h g i)
      = z (Shape.Idx.first h_S_) + ∑ e : Fin 192, x (ix6 b n h g i e) := by
  rw [ValueIdx.hostReduceAdd_apply, Ideal.hostReduceAdd_single _ reduces_row]
  exact congrArg (z (Shape.Idx.first h_S_) + ·) (Finset.sum_congr rfl fun e _ => congrArg x (row_lift b n h g i e))

theorem rowMax_at (q : FVec Ideal S17408x256 .f32) (k : FVec Ideal S17408x128 .f32)
   (b : Fin 2) (n : Fin 128) (h g : Fin 2) (i : Fin 64) :
    rowMax q k (ix5 b n h g i) = Finset.univ.fold max ⊥ fun e : Fin 192 => scores q k (ix6 b n h g i e) := by
  have e0 : (constant S_ FTy.f32 0xFF800000#32 : FVec Ideal S_ .f32) (Shape.Idx.first h_S_) = ⊥ := by
    show Ideal.ofBits .f32 0xFF800000#32 = ⊥
    simp [Ideal.ofBits, Ideal.ieee]
  refine (reduceMax_at (scores q k) _ b n h g i).trans ?_
  rw [e0]

theorem rowSum_at (q : FVec Ideal S17408x256 .f32) (k : FVec Ideal S17408x128 .f32) (a : FVec Ideal S4 .f32)
   (b : Fin 2) (n : Fin 128) (h g : Fin 2) (i : Fin 64) :
    rowSum q k a (ix5 b n h g i) = ∑ e : Fin 192, weights q k a (ix6 b n h g i e) := by
  have e0 : (constant S_ FTy.f32 0x00000000#32 : FVec Ideal S_ .f32) (Shape.Idx.first h_S_) = (0 : EReal) := by
    show Ideal.ofBits .f32 0x00000000#32 = 0
    simp [Ideal.ofBits, Ideal.ieee]
  refine (reduceAdd_at (weights q k a) _ b n h g i).trans ?_
  rw [e0, zero_add]

/-- The greater of a row's value, repeated, and another. -/
theorem maxRow_at (x : FVec Ideal S2x128x2x2x64 .f32) (z : FVec Ideal S2x128x2x2x64x1 .f32) (b : Fin 2) (n : Fin 128) (h g : Fin 2) (i : Fin 64) :
    (maximumf (broadcastInDim S2x128x2x2x64x1 ![0, 1, 2, 3, 4] bcast_S2x128x2x2x64_S2x128x2x2x64x1_0_1_2_3_4 x) z : FVec Ideal S2x128x2x2x64x1 .f32) (ix6 b n h g i 0)
      = max (x (ix5 b n h g i)) (z (ix6 b n h g i 0)) := by
  pointwise

theorem top_at (q : FVec Ideal S17408x256 .f32) (k : FVec Ideal S17408x128 .f32) (a : FVec Ideal S4 .f32)
   (b : Fin 2) (n : Fin 128) (h g : Fin 2) (i : Fin 64) :
    top q k a (ix6 b n h g i 0) = max (rowMax q k (ix5 b n h g i)) (sinks a (ix6 b n h g i 0)) :=
  maxRow_at (rowMax q k) (sinks a) b n h g i

/-- The exponential of a difference from a row's value. -/
theorem expSub_at (x : FVec Ideal S2x128x2x2x64x192 .f32) (z : FVec Ideal S2x128x2x2x64x1 .f32) (b : Fin 2) (n : Fin 128) (h g : Fin 2) (i : Fin 64) (e : Fin 192) :
    (Host.exp (subf x (broadcastInDim S2x128x2x2x64x192 ![0, 1, 2, 3, 4, 5] bcast_S2x128x2x2x64x1_S2x128x2x2x64x192_0_1_2_3_4_5 z)) : FVec Ideal S2x128x2x2x64x192 .f32) (ix6 b n h g i e)
      = Ideal.exp (x (ix6 b n h g i e) - z (ix6 b n h g i 0)) := by
  pointwise

theorem weights_at (q : FVec Ideal S17408x256 .f32) (k : FVec Ideal S17408x128 .f32) (a : FVec Ideal S4 .f32)
   (b : Fin 2) (n : Fin 128) (h g : Fin 2) (i : Fin 64) (e : Fin 192) :
    weights q k a (ix6 b n h g i e) = Ideal.exp (scores q k (ix6 b n h g i e) - top q k a (ix6 b n h g i 0)) :=
  expSub_at (scores q k) (top q k a) b n h g i e

/-- A row's sum and the sink's weight. -/
theorem addRow_at (x : FVec Ideal S2x128x2x2x64 .f32) (z w : FVec Ideal S2x128x2x2x64x1 .f32) (b : Fin 2) (n : Fin 128) (h g : Fin 2) (i : Fin 64) :
    (addf (broadcastInDim S2x128x2x2x64x1 ![0, 1, 2, 3, 4] bcast_S2x128x2x2x64_S2x128x2x2x64x1_0_1_2_3_4 x) (Host.exp (subf z w)) : FVec Ideal S2x128x2x2x64x1 .f32) (ix6 b n h g i 0)
      = x (ix5 b n h g i) + Ideal.exp (z (ix6 b n h g i 0) - w (ix6 b n h g i 0)) := by
  pointwise

theorem total_at (q : FVec Ideal S17408x256 .f32) (k : FVec Ideal S17408x128 .f32) (a : FVec Ideal S4 .f32)
   (b : Fin 2) (n : Fin 128) (h g : Fin 2) (i : Fin 64) :
    total q k a (ix6 b n h g i 0) = rowSum q k a (ix5 b n h g i)
      + Ideal.exp (sinks a (ix6 b n h g i 0) - top q k a (ix6 b n h g i 0)) :=
  addRow_at (rowSum q k a) (sinks a) (top q k a) b n h g i

/-- A row of quotients against the values of its band. -/
theorem mix_at (x : FVec Ideal S2x128x192x2x64 .f32) (w : FVec Ideal S2x128x2x2x64x192 .f32) (z : FVec Ideal S2x128x2x2x64x1 .f32)
   (b : Fin 2) (n : Fin 128) (h : Fin 2) (d : Fin 64) (g : Fin 2) (i : Fin 64)  :
    (Host.dotGeneral dot_S2x128x192x2x64_S2x128x2x2x64x192_S2x128x2x64x2x64_2_5_4_34_013_012 none x (Host.divf w (broadcastInDim S2x128x2x2x64x192 ![0, 1, 2, 3, 4, 5] bcast_S2x128x2x2x64x1_S2x128x2x2x64x192_0_1_2_3_4_5 z)) : FVec Ideal S2x128x2x64x2x64 .f32) (ix6 b n h d g i)
      = ∑ e : Fin 192, x (ix5 b n e h d) * Ideal.div (w (ix6 b n h g i e)) (z (ix6 b n h g i 0)) := by
  pointwise

theorem mixed_at (q : FVec Ideal S17408x256 .f32) (k v : FVec Ideal S17408x128 .f32) (a : FVec Ideal S4 .f32)
   (b : Fin 2) (n : Fin 128) (h : Fin 2) (d : Fin 64) (g : Fin 2) (i : Fin 64)  :
    mixed q k v a (ix6 b n h d g i) = ∑ e : Fin 192, band v (ix5 b n e h d)
      * Ideal.div (weights q k a (ix6 b n h g i e)) (total q k a (ix6 b n h g i 0)) :=
  mix_at (band v) (weights q k a) (total q k a) b n h d g i

/-- The heads laid side by side. -/
theorem lanes_at (x : FVec Ideal S2x128x2x64x2x64 .f32) (r : Fin 16384) (l : Fin 256) :
    (shapeCast S16384x256 (transpose S2x128x64x2x2x64 [0, 1, 5, 2, 4, 3] x transposes_S2x128x2x64x2x64_S2x128x64x2x2x64_0_1_5_2_4_3) shapeCasts_S2x128x64x2x2x64_S16384x256 : FVec Ideal S16384x256 .f32) (ix2 r l)
      = x (ix6 ⟨r.val / 8192, by omega⟩ ⟨r.val / 64 % 128, by omega⟩ ⟨l.val / 128, by omega⟩
      ⟨l.val % 64, by omega⟩ ⟨l.val / 64 % 2, by omega⟩ ⟨r.val % 64, by omega⟩) := by
  pointwise

/-- The output at row `r`, lane `l`. -/
theorem out_at (q : FVec Ideal S17408x256 .f32) (k v : FVec Ideal S17408x128 .f32) (a : FVec Ideal S4 .f32) (r : Fin 16384) (l : Fin 256) :
    out q k v a (ix2 r l) = mixed q k v a (ix6 ⟨r.val / 8192, by omega⟩ ⟨r.val / 64 % 128, by omega⟩ ⟨l.val / 128, by omega⟩
      ⟨l.val % 64, by omega⟩ ⟨l.val / 64 % 2, by omega⟩ ⟨r.val % 64, by omega⟩) :=
  lanes_at (mixed q k v a) r l

/-- The reference's result is the output array. -/
theorem res_eq (m : (ℓ : Loc nD τ sig) → Buf (Elt Ideal) ℓ) (c : Dev nD) :
    Cert.ReferenceIdeal.Value.res_out0 m c = out (m ((c : Thread nD τ).loc main_arg0)) (m ((c : Thread nD τ).loc main_arg1))
      (m ((c : Thread nD τ).loc main_arg2)) (m ((c : Thread nD τ).loc main_arg3)) := rfl

end Cert.ReferenceIdeal.Attn

end
-- ==== Proof.AttnEquation.lean ====
/- The kernel's array is the reference's: the division by the sum of the weights, taken once for each row against once for
   each weight, where every score is below the greatest extended real and the sink is a number. -/
module

public import proofs.«01_k».proof.Proof.AttnArray
public import proofs.«01_k».proof.Proof.AttnReference

@[expose] public section
set_option maxRecDepth 16384
noncomputable section
open Idealize.ShloMosaic Idealize.ShloMosaic.TcCoe Idealize.SL.Sem
namespace Cert.AttnEquation
open Cert.KernelIdeal.Attn (attend attnAt)

/-- A nonnegative number multiplies a sum term by term. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A sum of numbers is a number. -/
theorem sum_real {ι : Type} (s : Finset ι) (f : ι → EReal) (g : ι → ℝ) (h : ∀ i, f i = g i) :
    ∑ i ∈ s, f i = ((∑ i ∈ s, g i : ℝ) : EReal) := by
  classical
  induction s using Finset.induction_on with
  | empty => simp
  | insert a s ha ih => rw [Finset.sum_insert ha, Finset.sum_insert ha, ih, h, EReal.coe_add]

/-- The attention of one row, with each weight divided by their sum. -/
theorem attend_div (s : Fin 192 → EReal) (z : EReal) (v : Fin 192 → EReal) (hs : ∀ e, s e ≠ ⊤) (hz : ∃ r : ℝ, z = r) :
    attend s z v = ∑ e, v e * Ideal.div (Ideal.exp (s e - max (Finset.univ.fold max ⊥ s) z))
      ((∑ e, Ideal.exp (s e - max (Finset.univ.fold max ⊥ s) z)) + Ideal.exp (z - max (Finset.univ.fold max ⊥ s) z)) := by
  obtain ⟨r, rfl⟩ := hz
  have hM : ∃ μ : ℝ, max (Finset.univ.fold max ⊥ s) (r : EReal) = μ := by
    have h1 : max (Finset.univ.fold max ⊥ s) (r : EReal) < ⊤ :=
      max_lt ((Finset.fold_max_lt _).2 ⟨bot_lt_top, fun e _ => lt_top_iff_ne_top.2 (hs e)⟩) (EReal.coe_lt_top r)
    have h2 : ⊥ < max (Finset.univ.fold max ⊥ s) (r : EReal) := lt_of_lt_of_le (EReal.bot_lt_coe r) (le_max_right _ _)
    exact ⟨_, (EReal.coe_toReal h1.ne h2.ne').symm⟩
  unfold attend
  obtain ⟨μ, hμ⟩ := hM
  rw [hμ]
  have hw : ∀ e, ∃ w : ℝ, 0 ≤ w ∧ Ideal.exp (s e - μ) = w := by
    intro e
    have := hs e
    induction h : s e with
    | bot => exact ⟨0, le_rfl, by rw [sub_eq_add_neg, EReal.bot_add]; rfl⟩
    | coe x => exact ⟨Real.exp (x - μ), (Real.exp_pos _).le, by rw [← EReal.coe_sub]; rfl⟩
    | top => exact absurd h this
  choose w hw0 hwe using hw
  have hd : (∑ e, Ideal.exp (s e - μ)) + Ideal.exp ((r : EReal) - μ) = (((∑ e, w e) + Real.exp (r - μ) : ℝ) : EReal) := by
    rw [sum_real _ _ _ hwe, ← EReal.coe_sub, EReal.coe_add]; rfl
  rw [hd]
  have hpos : 0 < (∑ e, w e) + Real.exp (r - μ) := add_pos_of_nonneg_of_pos (Finset.sum_nonneg fun e _ => hw0 e) (Real.exp_pos _)
  generalize (∑ e, w e) + Real.exp (r - μ) = D at hpos
  have hdiv : ∀ x : EReal, Ideal.div x (D : EReal) = x * ((D⁻¹ : ℝ) : EReal) := by
    intro x
    unfold Ideal.div
    rw [if_neg (by exact_mod_cast hpos.ne'), EReal.coe_inv]
  rw [hdiv, one_mul, sum_mul_real _ _ _ (inv_nonneg.2 hpos.le)]
  refine Finset.sum_congr rfl fun e _ => ?_
  rw [hdiv, mul_comm (Ideal.exp _) (v e), mul_assoc]

/-- The literal one eighth. -/
theorem ofBits_eighth : Ideal.ofBits .f32 0x3E000000#32 = ((1 / 8 : ℝ) : EReal) := by
  have e1 : (1040187392 : ℕ) >>> 23 % 256 = 124 := by decide
  have e2 : BitVec.extractLsb' 31 1 1040187392#32 = 0#1 := by decide
  norm_num [Ideal.ofBits, Ideal.ieee, e1, e2]

open Cert.ReferenceIdeal.Attn in
/-- The two arrays agree at every index. -/
theorem equation (q : FVec Ideal Cert.KernelIdeal.S17408x256 .f32) (k v : FVec Ideal Cert.KernelIdeal.S17408x128 .f32)
    (a : FVec Ideal Cert.KernelIdeal.S4 .f32)
    (hq : ∀ i, ∃ r : ℝ, q i = r) (hk : ∀ i, ∃ r : ℝ, k i = r) (ha : ∀ i, ∃ r : ℝ, a i = r) (r : Fin 16384) (l : Fin 256) :
    attnAt q k v a r l = out q k v a (ix2 r l) := by
  choose qr hqr using hq
  choose kr hkr using hk
  rw [out_at, mixed_at]
  generalize hb : (⟨r.val / 8192, by omega⟩ : Fin 2) = b
  generalize hn : (⟨r.val / 64 % 128, by omega⟩ : Fin 128) = n
  generalize hh : (⟨l.val / 128, by omega⟩ : Fin 2) = h
  generalize hdd : (⟨l.val % 64, by omega⟩ : Fin 64) = d'
  generalize hg : (⟨l.val / 64 % 2, by omega⟩ : Fin 2) = g
  generalize hi : (⟨r.val % 64, by omega⟩ : Fin 64) = i
  replace hb := congrArg Fin.val hb; replace hn := congrArg Fin.val hn; replace hh := congrArg Fin.val hh
  replace hdd := congrArg Fin.val hdd; replace hg := congrArg Fin.val hg; replace hi := congrArg Fin.val hi
  simp only at hb hn hh hdd hg hi
  have hS : ∀ e : Fin 192, (if r.val % 8192 / 64 * 64 + e.val < 128 then ⊥
      else ∑ d : Fin 64, q (ix2 ⟨r.val, by omega⟩ ⟨64 * (l.val / 64) + d.val, by omega⟩) * Ideal.ofBits .f32 0x3E000000#32
        * k (ix2 ⟨r.val / 64 * 64 + e.val - 128, by omega⟩ ⟨64 * (l.val / 128) + d.val, by omega⟩))
      = scores q k (ix6 b n h g i e) := by
    intro e
    rw [scores_at]
    by_cases hm : 64 * n.val + e.val < 128
    · rw [if_pos hm, if_pos (by omega)]
    · rw [if_neg hm, if_neg (by omega), products_at, ofBits_eighth, sum_mul_real _ _ _ (by norm_num)]
      refine Finset.sum_congr rfl fun d _ => ?_
      rw [band_at, if_neg hm, mul_right_comm, mul_comm (q _) (k _)]
      refine congrArg₂ (fun x y : EReal => x * y * _) (congrArg k ?_) (congrArg q ?_)
      · exact (ix2_inj ..).2 ⟨Fin.ext (by simp only; omega), Fin.ext (by simp only; omega)⟩
      · exact (ix2_inj ..).2 ⟨Fin.ext (by simp only; omega), Fin.ext (by simp only; omega)⟩
  have hZ : a (ix1 ⟨l.val / 64, by omega⟩) = sinks a (ix6 b n h g i 0) := by
    rw [sinks_at]; exact congrArg (fun j => a (ix1 j)) (Fin.ext (by simp only; omega))
  have hT : ∀ e, scores q k (ix6 b n h g i e) ≠ ⊤ := by
    intro e
    rw [← hS e]
    split
    · exact bot_ne_top
    · rw [sum_real _ _ _ fun d => by rw [hqr, hkr, ofBits_eighth, ← EReal.coe_mul, ← EReal.coe_mul]]
      exact EReal.coe_ne_top _
  have hV : ∀ e : Fin 192, (if r.val % 8192 / 64 * 64 + e.val < 128 then 0
      else v (ix2 ⟨r.val / 64 * 64 + e.val - 128, by omega⟩ ⟨64 * (l.val / 128) + l.val % 64, by omega⟩)) = band v (ix5 b n e h d') := by
    intro e
    rw [band_at]
    by_cases hm : 64 * n.val + e.val < 128
    · rw [if_pos hm, if_pos (by omega)]
    · rw [if_neg hm, if_neg (by omega)]
      exact congrArg v ((ix2_inj ..).2 ⟨Fin.ext (by simp only; omega), Fin.ext (by simp only; omega)⟩)
  unfold attnAt
  simp only [hS, hV, hZ]
  rw [attend_div _ _ _ hT (by rw [← hZ]; exact ha _)]
  simp only [weights_at, total_at, top_at, rowMax_at, rowSum_at]

end Cert.AttnEquation

end
-- ==== Proof.AttnFinite.lean ====
/- The precondition of the attention's equation, read: every query, key and sink is a number. -/
module

public import proofs.«01_k».proof.Pre_finite_logits
public import Idealize.ShloMosaic.Lib.ReduceAll
public import Idealize.ShloMosaic.Lib.Affine
public import Idealize.ShloMosaic.Lib.ValueIdx

@[expose] public section
set_option maxRecDepth 16384
noncomputable section
open Idealize.ShloMosaic
namespace Cert.Pre_finite_logits

/-- The side conditions of the precondition's operations. -/
theorem facts : Facts where
  bcast_S_S17408x256 := by decide
  reducesTo_S17408x256_S_d0_1 := by decide
  h_S_ := by decide
  bcast_S_S17408x128 := by decide
  reducesTo_S17408x128_S_d0_1 := by decide
  bcast_S_S4 := by decide
  reducesTo_S4_S_d0 := by decide

/-- The word of plus infinity. -/
theorem ofBits_inf : Ideal.ofBits .f32 0x7F800000#32 = ⊤ := by
  simp [Ideal.ofBits, Ideal.ieee]

/-- An extended real whose absolute value is below the greatest is a number. -/
theorem real_of_abs (x : EReal) (h : Ideal.cmp .olt (max x (-x)) (Ideal.ofBits .f32 0x7F800000#32) = 1#1) :
    ∃ r : ℝ, x = r := by
  rw [ofBits_inf] at h
  have hx : max x (-x) < ⊤ := by
    by_contra hc
    simp [Ideal.cmp, hc] at h
  induction x with
  | bot => simp at hx
  | coe r => exact ⟨r, rfl⟩
  | top => simp at hx

/-- The precondition makes every query, key and sink a number. -/
theorem finite [Facts] (q : FVec Ideal S17408x256 .f32) (k v : FVec Ideal S17408x128 .f32) (a : FVec Ideal S4 .f32)
    (h : fn (F := Ideal) q k v a = fun _ => 1#1) :
    (∀ i, ∃ r : ℝ, q i = r) ∧ (∀ i, ∃ r : ℝ, k i = r) ∧ ∀ i, ∃ r : ℝ, a i = r := by
  have h0 := congrFun h (fun z => z.elim0)
  dsimp only [fn, andi] at h0
  obtain ⟨h1, h2⟩ := IntOp.andi_eq_one.1 h0
  obtain ⟨h3, h4⟩ := IntOp.andi_eq_one.1 h1
  haveI : Subsingleton S_.Idx := ⟨fun x y => funext fun z => z.elim0⟩
  exact ⟨fun i => real_of_abs _ (Host.reduce_andi_all _ _ _ _ _ h3 i), fun i => real_of_abs _ (Host.reduce_andi_all _ _ _ _ _ h4 i),
    fun i => real_of_abs _ (Host.reduce_andi_all _ _ _ _ _ h2 i)⟩

end Cert.Pre_finite_logits

end
-- ==== Proof.ExpertsPre.lean ====
/- The precondition of the experts' call, read: every block names one of the eight experts, and the first block is in use. -/
module

public import proofs.«01_k».proof.Pre_experts_named
public import Idealize.ShloMosaic.Lib.ReduceAll
public import Idealize.ShloMosaic.Lib.Affine
public import Idealize.ShloMosaic.Lib.ValueIdx

@[expose] public section
set_option maxRecDepth 16384
noncomputable section
open Idealize.ShloMosaic
namespace Cert.Pre_experts_named

/-- The side conditions of the precondition's operations. -/
theorem facts : Facts where
  bcast_S_S77 := by decide
  reducesTo_S77_S_d0 := by decide
  h_S_ := by decide
  bcast_S_S1 := by decide
  reducesTo_S1_S_d0 := by decide

/-- A word that is at least zero and less than eight, as signed words are compared. -/
theorem lt_eight (w : BitVec 32) (h0 : IntOp.cmpi .sge w 0#32 = 1#1) (h1 : IntOp.cmpi .slt w 8#32 = 1#1) : w.toNat < 8 := by
  have h0 := IntOp.cmpi_sge.1 h0
  have h1 := IntOp.cmpi_slt.1 h1
  have e0 : (0#32 : BitVec 32).toInt = 0 := by decide
  have e1 : (8#32 : BitVec 32).toInt = 8 := by decide
  rw [e0] at h0
  rw [e1] at h1
  rw [BitVec.toInt_eq_toNat_cond] at h0 h1
  split at h0 <;> omega

/-- The precondition's two ranges. -/
theorem named {F : FTy → Type} [FloatOps F] [Facts] (be : IVec S77 32) (nu : IVec S1 32) (xa xb : IVec S39424x256 32)
    (gs : FVec F S39424x128 .f32) (w1 w3 : FVec F S8x1024x3584 .bf16) (w2 : FVec F S8x3584x1024 .bf16)
    (h : fn (F := F) be nu xa xb gs w1 w3 w2 = fun _ => 1#1) :
    (∀ i, (be i).toNat < 8) ∧ ∀ i, 1 ≤ (nu i).toInt := by
  have h0 := congrFun h (fun z => z.elim0)
  dsimp only [fn, andi] at h0
  obtain ⟨h1, h2⟩ := IntOp.andi_eq_one.1 h0
  haveI : Subsingleton S_.Idx := ⟨fun x y => funext fun z => z.elim0⟩
  refine ⟨fun i => ?_, fun i => ?_⟩
  · obtain ⟨h3, h4⟩ := IntOp.andi_eq_one.1 (Host.reduce_andi_all _ _ _ _ _ h1 i)
    exact lt_eight _ h3 h4
  · have h3 := IntOp.cmpi_sge.1 (Host.reduce_andi_all _ _ _ _ _ h2 i)
    have e1 : (1#32 : BitVec 32).toInt = 1 := by decide
    exact e1 ▸ h3

end Cert.Pre_experts_named

end
-- ==== Proof.ExpertsTables.lean ====
/- The tables of the experts' call: under the precondition every block of weights lies in its array, and the first block is
   in use; of the program as printed and of its idealised copy. -/
module

public import proofs.«01_k».proof.Proof.Gen.Kernel2.Frame
public import proofs.«01_k».proof.Proof.Gen.Kernel2Ideal.Frame
public import Idealize.ShloMosaic.PureOps.BitExact
public import Idealize.ShloMosaic.PureOps.Ideal
public import Idealize.ShloMosaic.Lib.Affine
public import Idealize.ShloMosaic.Lib.Pointwise

@[expose] public section
set_option maxRecDepth 16384
noncomputable section
open Idealize.ShloMosaic Idealize.ShloMosaic.TcCoe

namespace Cert.Kernel2.Experts
open Cert.Kernel2 Cert.Kernel2.Gen
variable (m : (ℓ : Loc nD τ sig) → Buf (Elt Bits) ℓ)

/-- Every block names one of the eight experts. -/
abbrev Named : Prop := ∀ i, (m (((0 : Dev nD) : Thread nD τ).loc main_arg0) i : BitVec 32).toNat < 8

/-- At least one block is in use. -/
abbrev Used : Prop := ∀ i, 1 ≤ (m (((0 : Dev nD) : Thread nD τ).loc main_arg1) i : BitVec 32).toInt

/-- The second grid coordinate as a word. -/
theorem half_lt (i : grid0.Coords) : (BitVec.ofNat 32 (i 1).val).toNat < 2 := by
  have h : (i 1).val < 2 := (i 1).isLt
  rw [BitVec.toNat_ofNat]
  omega

/-- Under the precondition every block of weights lies in its array. -/
theorem ok (h : Named m) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 := half_lt i
    match a with
    | 0 => exact (Nat.mul_one _).le.trans (h _)
    | 1 => first | exact Nat.le_refl 1024 | (show ((BitVec.ofNat 32 (i 1).val).toNat + 1) * 1792 ≤ 3584; omega)
    | 2 => first | exact Nat.le_refl 1024 | (show ((BitVec.ofNat 32 (i 1).val).toNat + 1) * 1792 ≤ 3584; omega)

/-- Whether a block is in use: its number is less than the number of blocks in use. -/
theorem used_iff (j : ℕ) (hj : j < 77) (v : BitVec 32) :
    (Scalar.cmpi .ne (Scalar.extui (Scalar.cmpi .slt (BitVec.ofNat 32 j) v)) 0#32) = 1#1 ↔ (j : ℤ) < v.toInt := by
  have e : (BitVec.ofNat 32 j).toInt = j := by
    rw [BitVec.toInt_eq_toNat_cond, BitVec.toNat_ofNat]
    split <;> omega
  have key := IntOp.cmpi_slt (x := BitVec.ofNat 32 j) (y := v)
  rw [e] at key
  rw [← key]
  show (Scalar.cmpi .ne (Scalar.extui (IntOp.cmpi .slt (BitVec.ofNat 32 j) v)) 0#32) = 1#1 ↔ _
  generalize IntOp.cmpi .slt (BitVec.ofNat 32 j) v = w
  revert w
  decide

/-- A grid step's coordinates: its block and its half of the hidden lanes. -/
theorem coords_at : ∀ t : Fin grid0.N, (grid0.coords t 0).val = t.val / 2 ∧ (grid0.coords t 1).val = t.val % 2 := by decide +kernel

/-- The number of blocks in use, as the kernel loads it. -/
theorem nu_read (i : S1.Idx) : tbM0_1.view.readAt (Elt Bits) (Rect.unit (s := S1) ![0] S1.size inb_S1_S1_0).toLoadRect (tbl m 1) i
    = m (((0 : Dev nD) : Thread nD τ).loc main_arg1) (ix1 0) := by
  haveI : Subsingleton S1.Idx := ⟨fun x y => funext fun a => Fin.ext (by
    have hx := (x a).isLt
    have hy := (y a).isLt
    obtain rfl : a = 0 := Subsingleton.elim _ _
    change _ < 1 at hx hy
    omega)⟩
  exact congrArg (m (((0 : Dev nD) : Thread nD τ).loc main_arg1)) (Subsingleton.elim _ _)

/-- Under the precondition the first block is in use. -/
theorem hyps (h : Used m) (hO : Ok m) : Hyps m hO := by
  refine Hyps.of fun c t h0 h3 hz => h0 ?_
  have ht : t.val < 154 := lt_of_lt_of_eq t.isLt (show (cfgM m hO).N = 154 from N_0)
  have hz : t.val = 0 := by omega
  have hc : (grid0.coords t 0).val = 0 := by rw [(coords_at t).1, hz]
  refine (used_iff _ (grid0.coords t 0).isLt _).2 ?_
  rw [hc]
  exact lt_of_lt_of_le (by decide) ((h (ix1 0)).trans (le_of_eq (congrArg BitVec.toInt (nu_read m _).symm)))

end Cert.Kernel2.Experts

namespace Cert.Kernel2Ideal.Experts
open Cert.Kernel2Ideal Cert.Kernel2Ideal.Gen
variable (m : (ℓ : Loc nD τ sig) → Buf (Elt Ideal) ℓ)

/-- Every block names one of the eight experts. -/
abbrev Named : Prop := ∀ i, (m (((0 : Dev nD) : Thread nD τ).loc main_arg0) i : BitVec 32).toNat < 8

/-- At least one block is in use. -/
abbrev Used : Prop := ∀ i, 1 ≤ (m (((0 : Dev nD) : Thread nD τ).loc main_arg1) i : BitVec 32).toInt

/-- The second grid coordinate as a word. -/
theorem half_lt (i : grid0.Coords) : (BitVec.ofNat 32 (i 1).val).toNat < 2 := by
  have h : (i 1).val < 2 := (i 1).isLt
  rw [BitVec.toNat_ofNat]
  omega

/-- Under the precondition every block of weights lies in its array. -/
theorem ok (h : Named m) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 := half_lt i
    match a with
    | 0 => exact (Nat.mul_one _).le.trans (h _)
    | 1 => first | exact Nat.le_refl 1024 | (show ((BitVec.ofNat 32 (i 1).val).toNat + 1) * 1792 ≤ 3584; omega)
    | 2 => first | exact Nat.le_refl 1024 | (show ((BitVec.ofNat 32 (i 1).val).toNat + 1) * 1792 ≤ 3584; omega)

/-- Whether a block is in use: its number is less than the number of blocks in use. -/
theorem used_iff (j : ℕ) (hj : j < 77) (v : BitVec 32) :
    (Scalar.cmpi .ne (Scalar.extui (Scalar.cmpi .slt (BitVec.ofNat 32 j) v)) 0#32) = 1#1 ↔ (j : ℤ) < v.toInt := by
  have e : (BitVec.ofNat 32 j).toInt = j := by
    rw [BitVec.toInt_eq_toNat_cond, BitVec.toNat_ofNat]
    split <;> omega
  have key := IntOp.cmpi_slt (x := BitVec.ofNat 32 j) (y := v)
  rw [e] at key
  rw [← key]
  show (Scalar.cmpi .ne (Scalar.extui (IntOp.cmpi .slt (BitVec.ofNat 32 j) v)) 0#32) = 1#1 ↔ _
  generalize IntOp.cmpi .slt (BitVec.ofNat 32 j) v = w
  revert w
  decide

/-- A grid step's coordinates: its block and its half of the hidden lanes. -/
theorem coords_at : ∀ t : Fin grid0.N, (grid0.coords t 0).val = t.val / 2 ∧ (grid0.coords t 1).val = t.val % 2 := by decide +kernel

/-- The number of blocks in use, as the kernel loads it. -/
theorem nu_read (i : S1.Idx) : tbM0_1.view.readAt (Elt Ideal) (Rect.unit (s := S1) ![0] S1.size inb_S1_S1_0).toLoadRect (tbl m 1) i
    = m (((0 : Dev nD) : Thread nD τ).loc main_arg1) (ix1 0) := by
  haveI : Subsingleton S1.Idx := ⟨fun x y => funext fun a => Fin.ext (by
    have hx := (x a).isLt
    have hy := (y a).isLt
    obtain rfl : a = 0 := Subsingleton.elim _ _
    change _ < 1 at hx hy
    omega)⟩
  exact congrArg (m (((0 : Dev nD) : Thread nD τ).loc main_arg1)) (Subsingleton.elim _ _)

/-- Under the precondition the first block is in use. -/
theorem hyps (h : Used m) (hO : Ok m) : Hyps m hO := by
  refine Hyps.of fun c t h0 h3 hz => h0 ?_
  have ht : t.val < 154 := lt_of_lt_of_eq t.isLt (show (cfgM m hO).N = 154 from N_0)
  have hz : t.val = 0 := by omega
  have hc : (grid0.coords t 0).val = 0 := by rw [(coords_at t).1, hz]
  refine (used_iff _ (grid0.coords t 0).isLt _).2 ?_
  rw [hc]
  exact lt_of_lt_of_le (by decide) ((h (ix1 0)).trans (le_of_eq (congrArg BitVec.toInt (nu_read m _).symm)))

end Cert.Kernel2Ideal.Experts

end
-- ==== Proof.ExpertsMath.lean ====
/- The plain sums and products of a gated expert layer over the extended reals, which both the kernel and the reference come to. -/
module

public import Idealize.ShloMosaic.PureOps.Ideal
public import Idealize.ShloMosaic.Lib.Pointwise

@[expose] public section
noncomputable section
open Idealize.ShloMosaic
namespace Cert.Experts

/-- Lane `k` of a row that two rows of words hold: the first row's high halves, its low halves, then the second row's. -/
def lane (a b : Fin 256 → BitVec 32) (k : Fin 1024) : EReal :=
  if k.val < 256 then Ideal.ofBits .f32 (a ⟨k.val % 256, Nat.mod_lt _ (by decide)⟩ &&& 4294901760#32)
  else if k.val < 512 then Ideal.ofBits .f32 (a ⟨k.val % 256, Nat.mod_lt _ (by decide)⟩ <<< 16)
  else if k.val < 768 then Ideal.ofBits .f32 (b ⟨k.val % 256, Nat.mod_lt _ (by decide)⟩ &&& 4294901760#32)
  else Ideal.ofBits .f32 (b ⟨k.val % 256, Nat.mod_lt _ (by decide)⟩ <<< 16)

/-- The logistic gate of `a` on itself, times `b`. -/
def gated (a b : EReal) : EReal := a * Ideal.div 1 (1 + Ideal.exp (-a)) * b

/-- A hidden lane of the expert from the row and the two weight columns. -/
def unit (x w1 w3 : Fin 1024 → EReal) : EReal := gated (∑ k, x k * w1 k) (∑ k, x k * w3 k)

/-- Row `i`, lane `d` of the layer: the row through the expert of its block, times that expert's gate of the row, or zero if
    the block is not in use. -/
def rowOut (be : Fin 77 → Fin 8) (nu : ℤ) (a b : Fin 39424 → Fin 256 → BitVec 32) (g : Fin 39424 → Fin 128 → EReal)
    (w1 w3 : Fin 8 → Fin 1024 → Fin 3584 → EReal) (w2 : Fin 8 → Fin 3584 → Fin 1024 → EReal) (i : Fin 39424) (d : Fin 1024) : EReal :=
  if ((i.val / 512 : ℕ) : ℤ) < nu then
    (∑ u : Fin 3584, unit (lane (a i) (b i)) (fun k => w1 (be ⟨i.val / 512, by omega⟩) k u) (fun k => w3 (be ⟨i.val / 512, by omega⟩) k u)
      * w2 (be ⟨i.val / 512, by omega⟩) u d) * g i ((be ⟨i.val / 512, by omega⟩).castLE (by decide))
  else 0

/-- A word shifted up by sixteen, on any unit. -/
theorem shl_sixteen (u : ArithUnit) (x : BitVec 32) : IntOp.shli u x 16#32 = x <<< 16 := by
  unfold IntOp.shli
  rw [if_pos (by decide)]
  rfl

/-- The row at a lane, as its quarters are laid side by side. -/
theorem lane_eq (a b : Fin 256 → BitVec 32) (k : Fin 1024) (u : ArithUnit) :
    (if h : k.val < 256 then Ideal.ofBits .f32 (IntOp.andi (a ⟨k.val, h⟩) 4294901760#32)
      else if h : k.val - 256 < 256 then Ideal.ofBits .f32 (IntOp.shli u (a ⟨k.val - 256, h⟩) 16#32)
      else if h : k.val - 256 - 256 < 256 then Ideal.ofBits .f32 (IntOp.andi (b ⟨k.val - 256 - 256, h⟩) 4294901760#32)
      else Ideal.ofBits .f32 (IntOp.shli u (b ⟨k.val - 256 - 256 - 256, by omega⟩) 16#32)) = lane a b k := by
  have hk := k.isLt
  simp only [shl_sixteen]
  unfold lane IntOp.andi
  split
  · exact congrArg (fun z => Ideal.ofBits .f32 (a z &&& 4294901760#32)) (Fin.ext (by simp only; omega))
  split
  · rw [if_pos (by omega)]
    exact congrArg (fun z => Ideal.ofBits .f32 (a z <<< 16)) (Fin.ext (by simp only; omega))
  split
  · rw [if_neg (by omega), if_pos (by omega)]
    exact congrArg (fun z => Ideal.ofBits .f32 (b z &&& 4294901760#32)) (Fin.ext (by simp only; omega))
  · rw [if_neg (by omega), if_neg (by omega)]
    exact congrArg (fun z => Ideal.ofBits .f32 (b z <<< 16)) (Fin.ext (by simp only; omega))

/-- The literal one. -/
theorem ofBits_one : Ideal.ofBits .f32 0x3F800000#32 = 1 := by
  have e1 : (0x3F800000#32 : BitVec 32).extractLsb' 23 8 = 127#8 := by decide
  have e2 : (0x3F800000#32 : BitVec 32).extractLsb' 0 23 = 0#23 := by decide
  simp [Ideal.ofBits, Ideal.ieee]
  norm_cast
  norm_num

end Cert.Experts

end
-- ==== Proof.ExpertsBlock.lean ====
/- What the expert kernel computes on one block of 512 rows, read at an index: the rows unpacked from words, a half of the
   hidden lanes, the gate's column, and the two packed outputs. -/
module

public import proofs.«01_k».proof.Proof.Gen.Kernel2Ideal.Skeleton
public import proofs.«01_k».proof.Proof.ExpertsMath
public import Idealize.ShloMosaic.Lib.Pointwise

@[expose] public section

set_option maxRecDepth 16384

noncomputable section

open Idealize.ShloMosaic Idealize.ShloMosaic.TcCoe Idealize.SL.Sem

namespace Cert.Kernel2Ideal.Experts

open Cert.Kernel2Ideal Cert.Kernel2Ideal.Gen Cert.Experts

/-- The rows unpacked from words. -/
def rowsOf (a b : Vec Ideal S512x256 .i32) : FVec Ideal S512x1024 .bf16 :=
  truncf .bf16 (concatenate S512x1024 1 [⟨S512x256, (bitcastToFloat (F := Ideal) .f32 (andi a (broadcast S512x256 4294901760#32)) : FVec Ideal S512x256 .f32)⟩,
    ⟨S512x256, (bitcastToFloat (F := Ideal) .f32 (shli a (broadcast S512x256 16#32)) : FVec Ideal S512x256 .f32)⟩,
    ⟨S512x256, (bitcastToFloat (F := Ideal) .f32 (andi b (broadcast S512x256 4294901760#32)) : FVec Ideal S512x256 .f32)⟩,
    ⟨S512x256, (bitcastToFloat (F := Ideal) .f32 (shli b (broadcast S512x256 16#32)) : FVec Ideal S512x256 .f32)⟩]
    concatenates_S512x256_S512x256_S512x256_S512x256_S512x1024_d1 : FVec Ideal S512x1024 .f32) bitsLt_bf16_f32

/-- The rows times a half of an expert's columns. -/
def up (x : FVec Ideal S512x1024 .bf16) (w : Vec Ideal S1x1024x1792 .bf16) : FVec Ideal S512x1792 .f32 :=
  matmul dot_S512x1024_S1024x1792_S512x1792_1_0_0_1_n_n none x
    (shapeCast S1024x1792 w shapeCasts_S1x1024x1792_S1024x1792 : FVec Ideal S1024x1792 .bf16) (constant S512x1792 .f32 0x00000000#32)

/-- The gated product of two such arrays. -/
def gate (a b : FVec Ideal S512x1792 .f32) : FVec Ideal S512x1792 .bf16 :=
  truncf .bf16 (mulf (mulf a (divf (broadcast S512x1792 (Scalar.ofBits (F := Ideal) .f32 0x3F800000#32))
    (addf (broadcast S512x1792 (Scalar.ofBits (F := Ideal) .f32 0x3F800000#32)) (exp (subf (broadcast S512x1792 (Scalar.ofBits (F := Ideal) .f32 0x00000000#32)) a))))) b) bitsLt_bf16_f32

/-- The hidden lanes times a half of an expert's rows. -/
def down (h : FVec Ideal S512x1792 .bf16) (w : Vec Ideal S1x1792x1024 .bf16) : FVec Ideal S512x1024 .f32 :=
  matmul dot_S512x1792_S1792x1024_S512x1024_1_0_0_1_n_n none h
    (shapeCast S1792x1024 w shapeCasts_S1x1792x1024_S1792x1024 : FVec Ideal S1792x1024 .bf16) (constant S512x1024 .f32 0x00000000#32)

theorem pay6_eq (a b : Vec Ideal S512x256 .i32) (w1 w3 : Vec Ideal S1x1024x1792 .bf16) (w2 : Vec Ideal S1x1792x1024 .bf16) :
    k0_pay6 (F := Ideal) a b w1 w3 w2 = down (gate (up (rowsOf a b) w1) (up (rowsOf a b) w3)) w2 := rfl

theorem rowsOf_at (a b : Vec Ideal S512x256 .i32) (r : Fin 512) (k : Fin 1024) :
    rowsOf a b (ix2 r k) = lane (fun l => a (ix2 r l)) (fun l => b (ix2 r l)) k := by
  pointwise [rowsOf]
  exact lane_eq (fun l => a (ix2 r l)) (fun l => b (ix2 r l)) k .vector

theorem up_at (x : FVec Ideal S512x1024 .bf16) (w : Vec Ideal S1x1024x1792 .bf16) (r : Fin 512) (u : Fin 1792) :
    up x w (ix2 r u) = ∑ k : Fin 1024, x (ix2 r k) * w (ix3 0 k u) := by
  pointwise [up]

theorem gate_at (a b : FVec Ideal S512x1792 .f32) (r : Fin 512) (u : Fin 1792) :
    gate a b (ix2 r u) = gated (a (ix2 r u)) (b (ix2 r u)) := by
  pointwise [gate]
  rw [zero_sub]
  rfl

theorem down_at (h : FVec Ideal S512x1792 .bf16) (w : Vec Ideal S1x1792x1024 .bf16) (r : Fin 512) (d : Fin 1024) :
    down h w (ix2 r d) = ∑ u : Fin 1792, h (ix2 r u) * w (ix3 0 u d) := by
  pointwise [down]

/-- The half layer at an index. -/
theorem pay6_at (a b : Vec Ideal S512x256 .i32) (w1 w3 : Vec Ideal S1x1024x1792 .bf16) (w2 : Vec Ideal S1x1792x1024 .bf16)
    (r : Fin 512) (d : Fin 1024) :
    k0_pay6 (F := Ideal) a b w1 w3 w2 (ix2 r d)
      = ∑ u : Fin 1792, unit (lane (fun l => a (ix2 r l)) (fun l => b (ix2 r l))) (fun k => w1 (ix3 0 k u)) (fun k => w3 (ix3 0 k u))
        * w2 (ix3 0 u d) := by
  rw [pay6_eq, down_at]
  refine Finset.sum_congr rfl fun u _ => ?_
  rw [gate_at, up_at, up_at]
  unfold unit
  simp only [rowsOf_at]

/-- The gated block at an index: the gate is the named column, and the rows of a block not in use are zero. -/
theorem pay3_at (i : grid0.Coords) (v0 v9 : BitVec 32) (h9 : v9.toNat < 128) (g : Vec Ideal S512x128 .f32) (y : Vec Ideal S512x1024 .f32)
    (r : Fin 512) (d : Fin 1024) :
    k0_pay3 (F := Ideal) i v0 v9 g y (ix2 r d)
      = if ((i 0).val : ℤ) < v0.toInt then y (ix2 r d) * g (ix2 r ⟨v9.toNat, h9⟩) else 0 := by
  have e : (BitVec.ofNat 32 (i 0).val).toInt = (i 0).val := by
    have h : (i 0).val < 77 := (i 0).isLt
    rw [BitVec.toInt_eq_toNat_cond, BitVec.toNat_ofNat]
    split <;> omega
  have key := IntOp.cmpi_slt (x := BitVec.ofNat 32 (i 0).val) (y := v0)
  rw [e] at key
  have hs : ∀ x : Fin 128, Scalar.select (IntOp.cmpi .eq (BitVec.ofNat 32 x.val) v9) (g (ix2 r x)) (0 : EReal)
      = if x = ⟨v9.toNat, h9⟩ then g (ix2 r x) else 0 := fun x => by
    have hx : BitVec.ofNat 32 x.val = v9 ↔ x = ⟨v9.toNat, h9⟩ := by
      rw [← BitVec.toNat_inj, BitVec.toNat_ofNat, Fin.ext_iff]
      have := x.isLt
      show x.val % 2 ^ 32 = _ ↔ x.val = v9.toNat
      omega
    unfold Scalar.select
    exact if_congr (IntOp.cmpi_eq.trans hx) rfl rfl
  pointwise [k0_pay3]
  rw [Finset.sum_congr rfl fun x _ => hs x, Finset.sum_ite_eq', if_pos (Finset.mem_univ _)]
  unfold Scalar.select
  exact if_congr key rfl rfl

theorem pay4_at (i : grid0.Coords) (v0 v9 : BitVec 32) (g : Vec Ideal S512x128 .f32) (y : Vec Ideal S512x1024 .f32)
    (R : Fin 1024) (l : Fin 256) :
    k0_pay4 (F := Ideal) i v0 v9 g y (ix2 R l)
      = k0_pay3 (F := Ideal) i v0 v9 g y (ix2 ⟨R.val / 2, by omega⟩ ⟨(if R.val % 2 = 0 then 256 else 0) + l.val, by split <;> omega⟩) := by
  unfold k0_pay4
  generalize k0_pay3 (F := Ideal) i v0 v9 g y = z
  have hl := l.isLt
  pointwise
  split
  · rfl
  · exact congrArg z ((ix2_inj ..).2 ⟨rfl, Fin.ext (Nat.zero_add _).symm⟩)

theorem pay5_at (i : grid0.Coords) (v0 v9 : BitVec 32) (g : Vec Ideal S512x128 .f32) (y : Vec Ideal S512x1024 .f32)
    (R : Fin 1024) (l : Fin 256) :
    k0_pay5 (F := Ideal) i v0 v9 g y (ix2 R l)
      = k0_pay3 (F := Ideal) i v0 v9 g y (ix2 ⟨R.val / 2, by omega⟩ ⟨(if R.val % 2 = 0 then 768 else 512) + l.val, by split <;> omega⟩) := by
  unfold k0_pay5
  generalize k0_pay3 (F := Ideal) i v0 v9 g y = z
  have hl := l.isLt
  pointwise
  split <;> rfl

end Cert.Kernel2Ideal.Experts

end
-- ==== Proof.ExpertsStep.lean ====
/- What each grid step of the expert kernel leaves: an even step the first half's sum in the scratch rows, an odd step the two
   packed outputs. -/
module

public import proofs.«01_k».proof.Proof.Gen.Kernel2Ideal.Frame
public import proofs.«01_k».proof.Proof.ExpertsBlock
public import proofs.«01_k».proof.Proof.ExpertsTables
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Experts

open Cert.Kernel2Ideal Cert.Kernel2Ideal.Gen Cert.Experts

variable (m : (ℓ : Loc nD τ sig) → Buf (Elt Ideal) ℓ) (hO : Ok m) (hH : Hyps m hO)

/-- The word that tells how many blocks are in use, as a step loads it. -/
abbrev count : BitVec 32 :=
  tbM0_1.view.readAt (Elt Ideal) (Rect.unit (s := S1) ![0] S1.size inb_S1_S1_0).toLoadRect (tbl m 1) (Shape.Idx.first (numel1_S1.symm ▸ Nat.one_pos))

/-- The two stores of the scratch rows keep their value. -/
theorem pay1_eq (x : FVec Ideal S512x1024 .f32) : k0_pay1 (F := Ideal) x = x := by
  unfold k0_pay1
  rw [shapeCast_self]

/-- The second half's sum is added to the first's. -/
theorem pay2_at (x y : FVec Ideal S512x1024 .f32) (i : S512x1024.Idx) : k0_pay2 (F := Ideal) x y i = y i + x i := by
  unfold k0_pay2
  rw [shapeCast_self]
  rfl

/-- The half layer of equal operands. -/
theorem pay6_congr {a a' b b' : Vec Ideal S512x256 .i32} {w w' u u' : Vec Ideal S1x1024x1792 .bf16} {z z' : Vec Ideal S1x1792x1024 .bf16}
    (ha : a = a') (hb : b = b') (hw : w = w') (hu : u = u') (hz : z = z') :
    k0_pay6 (F := Ideal) a b w u z = k0_pay6 (F := Ideal) a' b' w' u' z' := by rw [ha, hb, hw, hu, hz]

/-- An even step of a block in use leaves the first half's sum. -/
theorem even_at (c : Dev nD) (t : Fin (cfgM m hO).N) (h0 : cond0_0 (grid0.coords t) (count m)) (h1 : t.val % 2 = 0) :
    (outsAt0 m hO hH c t.val t.isLt).2.2
      = k0_pay6 (F := Ideal) (iblk m hO c 0 t) (iblk m hO c 1 t) (iblk m hO c 3 t) (iblk m hO c 4 t) (iblk m hO c 5 t) := by
  refine (congrArg (fun z => z.2.2) (outsAt0_A m hO hH c t h0 h1 (by omega) (by omega))).trans ?_
  dsimp only
  funext y
  unfold sout0_A_0
  frame_open
  frame_out
  rw [pay1_eq]
  exact congrFun (pay6_congr ((hs0_0 m hO t).read_unread _) ((hs0_1 m hO t).read_unread _) ((hs0_3 m hO t).read_unread _)
    ((hs0_4 m hO t).read_unread _) ((hs0_5 m hO t).read_unread _)) y

/-- A block's expert, as a step loads it. -/
theorem be_read (i : grid0.Coords) (h : ∀ a, k0_off2 i a + ![1] a ≤ S77.size a) (k : (⟨1, ![1]⟩ : Shape).Idx) :
    View.readAt (Elt Ideal) (View.whole main_arg0) (Rect.unit (s := S77) (k0_off2 i) ![1] h).toLoadRect (tbl m 0) k
      = m (((0 : Dev nD) : Thread nD τ).loc main_arg0) (ix1 ⟨(i 0).val, (i 0).isLt⟩) := by
  have key : ∀ x y : S77.Idx, (x 0).val = (y 0).val → x = y := fun x y e => funext fun a => by
    obtain rfl : a = 0 := Subsingleton.elim (α := Fin 1) _ _
    exact Fin.ext e
  refine congrArg (m (((0 : Dev nD) : Thread nD τ).loc main_arg0)) (key _ _ ?_)
  have hk : (k 0).val < 1 := (k 0).isLt
  show k0_off2 i 0 + 1 * (k 0).val = (i 0).val
  have hi : (i 0).val < 77 := (i 0).isLt
  have : k0_off2 i 0 = (BitVec.ofNat 32 (i 0).val).toNat := rfl
  rw [this, BitVec.toNat_ofNat]
  omega

/-- The rows a step adds up: its half of the hidden lanes. -/
abbrev half (c : Dev nD) (t : Fin (cfgM m hO).N) : FVec Ideal S512x1024 .f32 :=
  k0_pay6 (F := Ideal) (iblk m hO c 0 t) (iblk m hO c 1 t) (iblk m hO c 3 t) (iblk m hO c 4 t) (iblk m hO c 5 t)

/-- A step's rows of gates. -/
abbrev gates (c : Dev nD) (t : Fin (cfgM m hO).N) : FVec Ideal S512x128 .f32 := iblk m hO c 2 t

/-- The word that names block `j`'s expert. -/
abbrev expert (j : Fin 77) : BitVec 32 := m (((0 : Dev nD) : Thread nD τ).loc main_arg0) (ix1 j)

/-- The word that tells how many blocks are in use. -/
abbrev inUse : BitVec 32 := m (((0 : Dev nD) : Thread nD τ).loc main_arg1) (ix1 0)

/-- Row `r`, lane `d` of the block of an odd step: both halves' sum times its expert's gate, or zero. -/
def blockOut (hN : Named m) (c : Dev nD) (t p : Fin (cfgM m hO).N) (j : Fin 77) (r : Fin 512) (d : Fin 1024) : EReal :=
  if (j.val : ℤ) < (inUse m).toInt then
    (half m hO c p (ix2 r d) + half m hO c t (ix2 r d))
      * gates m hO c t (ix2 r ⟨(expert m j).toNat, lt_of_lt_of_le (hN _) (by decide)⟩)
  else 0

variable (hN : Named m)

/-- The gated rows of an odd step. -/
theorem gated_at (c : Dev nD) (t p : Fin (cfgM m hO).N) (j : Fin 77) (hj : j.val = (grid0.coords t 0).val) (v0 v9 : BitVec 32)
    (h0 : v0 = inUse m) (h9 : v9 = m (((0 : Dev nD) : Thread nD τ).loc main_arg0) (ix1 ⟨(grid0.coords t 0).val, (grid0.coords t 0).isLt⟩))
    (g : Vec Ideal S512x128 .f32) (hg : g = gates m hO c t) (y : FVec Ideal S512x1024 .f32)
    (hy : (j.val : ℤ) < (inUse m).toInt → ∀ i, y i = half m hO c p i + half m hO c t i) (r : Fin 512) (d : Fin 1024) :
    k0_pay3 (F := Ideal) (grid0.coords t) v0 v9 g y (ix2 r d) = blockOut m hO hN c t p j r d := by
  have ej : (⟨(grid0.coords t 0).val, (grid0.coords t 0).isLt⟩ : Fin 77) = j := Fin.ext hj.symm
  rw [ej] at h9
  subst h0 h9 hg
  refine (pay3_at _ _ _ (lt_of_lt_of_le (hN _) (by decide)) _ y r d).trans ?_
  unfold blockOut
  rw [← hj]
  split
  · next h => rw [hy h]
  · rfl

/-- Whether the block of a step is in use. -/
theorem in_use (t : Fin (cfgM m hO).N) (j : Fin 77) (hj : j.val = (grid0.coords t 0).val) :
    cond0_0 (grid0.coords t) (count m) ↔ (j.val : ℤ) < (inUse m).toInt := by
  refine (used_iff _ (grid0.coords t 0).isLt _).trans ?_
  rw [← hj]
  exact iff_of_eq (congrArg (fun v : BitVec 32 => (j.val : ℤ) < v.toInt) (nu_read m _))

/-- The first output of an odd step. -/
theorem odd_6 (c : Dev nD) (t p : Fin (cfgM m hO).N) (h1 : t.val % 2 = 1) (hp : p.val + 1 = t.val) (j : Fin 77) (hj : j.val = t.val / 2)
    (R : Fin 1024) (l : Fin 256) :
    (outsAt0 m hO hH c t.val t.isLt).1 (ix2 R l)
      = blockOut m hO hN c t p j ⟨R.val / 2, by omega⟩ ⟨(if R.val % 2 = 0 then 256 else 0) + l.val, by split <;> omega⟩ := by
  have hj : j.val = (grid0.coords t 0).val := hj.trans (coords_at t).1.symm
  have hjp : j.val = (grid0.coords p 0).val := by rw [(coords_at p).1, hj, (coords_at t).1]; omega
  have ep : t.val - 1 = p.val := by omega
  by_cases h0 : cond0_0 (grid0.coords t) (count m)
  · refine (congrFun (congrArg (fun z => z.1) (outsAt0_C m hO hH c t h0 (by omega) h1 h1)) _).trans ?_
    dsimp only
    unfold out0_C_6
    frame_open
    frame_out
    refine (pay4_at _ _ _ _ _ R l).trans ?_
    refine gated_at m hO hN c t p j hj _ _ (nu_read m _) (be_read m _ _ _) _ ((hs0_2 m hO t).read_unread _) _ (fun hu i => ?_) _ _
    refine (pay2_at _ _ i).trans (congrArg₂ (fun a b : EReal => a + b) ?_ ?_)
    · refine (congrFun (read_unread_whole cc0_scratch0 _ _) i).trans ?_
      have e := even_at m hO hH c p ((in_use m hO p j hjp).2 hu) (by omega)
      simp only [ep]
      exact congrFun e i
    · exact congrFun (pay6_congr ((hs0_0 m hO t).read_unread _) ((hs0_1 m hO t).read_unread _) ((hs0_3 m hO t).read_unread _)
        ((hs0_4 m hO t).read_unread _) ((hs0_5 m hO t).read_unread _)) i
  · refine (congrFun (congrArg (fun z => z.1) (outsAt0_D m hO hH c t h0 h1)) _).trans ?_
    dsimp only
    unfold out0_D_6
    frame_open
    frame_out
    refine (pay4_at _ _ _ _ _ R l).trans ?_
    exact gated_at m hO hN c t p j hj _ _ (nu_read m _) (be_read m _ _ _) _ ((hs0_2 m hO t).read_unread _) _
      (fun hu => absurd ((in_use m hO t j hj).2 hu) h0) _ _

/-- The second output of an odd step. -/
theorem odd_7 (c : Dev nD) (t p : Fin (cfgM m hO).N) (h1 : t.val % 2 = 1) (hp : p.val + 1 = t.val) (j : Fin 77) (hj : j.val = t.val / 2)
    (R : Fin 1024) (l : Fin 256) :
    (outsAt0 m hO hH c t.val t.isLt).2.1 (ix2 R l)
      = blockOut m hO hN c t p j ⟨R.val / 2, by omega⟩ ⟨(if R.val % 2 = 0 then 768 else 512) + l.val, by split <;> omega⟩ := by
  have hj : j.val = (grid0.coords t 0).val := hj.trans (coords_at t).1.symm
  have hjp : j.val = (grid0.coords p 0).val := by rw [(coords_at p).1, hj, (coords_at t).1]; omega
  have ep : t.val - 1 = p.val := by omega
  by_cases h0 : cond0_0 (grid0.coords t) (count m)
  · refine (congrFun (congrArg (fun z => z.2.1) (outsAt0_C m hO hH c t h0 (by omega) h1 h1)) _).trans ?_
    dsimp only
    unfold out0_C_7
    frame_open
    frame_out
    refine (pay5_at _ _ _ _ _ R l).trans ?_
    refine gated_at m hO hN c t p j hj _ _ (nu_read m _) (be_read m _ _ _) _ ((hs0_2 m hO t).read_unread _) _ (fun hu i => ?_) _ _
    refine (pay2_at _ _ i).trans (congrArg₂ (fun a b : EReal => a + b) ?_ ?_)
    · refine (congrFun (read_unread_whole cc0_scratch0 _ _) i).trans ?_
      have e := even_at m hO hH c p ((in_use m hO p j hjp).2 hu) (by omega)
      simp only [ep]
      exact congrFun e i
    · exact congrFun (pay6_congr ((hs0_0 m hO t).read_unread _) ((hs0_1 m hO t).read_unread _) ((hs0_3 m hO t).read_unread _)
        ((hs0_4 m hO t).read_unread _) ((hs0_5 m hO t).read_unread _)) i
  · refine (congrFun (congrArg (fun z => z.2.1) (outsAt0_D m hO hH c t h0 h1)) _).trans ?_
    dsimp only
    unfold out0_D_7
    frame_open
    frame_out
    refine (pay5_at _ _ _ _ _ R l).trans ?_
    exact gated_at m hO hN c t p j hj _ _ (nu_read m _) (be_read m _ _ _) _ ((hs0_2 m hO t).read_unread _) _
      (fun hu => absurd ((in_use m hO t j hj).2 hu) h0) _ _

end Cert.Kernel2Ideal.Experts

end
-- ==== Proof.ExpertsArray.lean ====
/- The two arrays that the expert kernel writes, at an index: the blocks of the odd steps tile them. -/
module

public import proofs.«01_k».proof.Proof.ExpertsStep

@[expose] public section

set_option maxRecDepth 16384

noncomputable section

open Idealize.ShloMosaic Idealize.ShloMosaic.TcCoe Idealize.SL.Sem

namespace Cert.Kernel2Ideal.Experts

open Cert.Kernel2Ideal Cert.Kernel2Ideal.Gen Cert.Experts

variable (m : (ℓ : Loc nD τ sig) → Buf (Elt Ideal) ℓ) (hO : Ok m) (hH : Hyps m hO)

/-- Where the blocks whose place no table names lie at each grid step. -/
theorem idx : ∀ t : Fin grid0.N, cc0_transform_0 (grid0.coords t) = ![t.val / 2, 0] ∧ cc0_transform_1 (grid0.coords t) = ![t.val / 2, 0]
    ∧ cc0_transform_2 (grid0.coords t) = ![t.val / 2, 0] ∧ cc0_transform_6 (grid0.coords t) = ![t.val / 2, 0]
    ∧ cc0_transform_7 (grid0.coords t) = ![t.val / 2, 0] := by decide +kernel

/-- An index of a two-axis array is known by its two coordinates. -/
theorem is_ix2 {n₀ n₁ : Nat} (j : Shape.Idx ⟨2, ![n₀, n₁]⟩) (a : Fin n₀) (b : Fin n₁) (h₀ : (j 0).val = a.val) (h₁ : (j 1).val = b.val) :
    j = ix2 a b := by
  funext k
  match k with
  | 0 => exact Fin.ext h₀
  | 1 => exact Fin.ext h₁

/-- An index of a three-axis array is known by its three coordinates. -/
theorem is_ix3 {n₀ n₁ n₂ : Nat} (j : Shape.Idx ⟨3, ![n₀, n₁, n₂]⟩) (a : Fin n₀) (b : Fin n₁) (d : Fin n₂) (h₀ : (j 0).val = a.val)
    (h₁ : (j 1).val = b.val) (h₂ : (j 2).val = d.val) : j = ix3 a b d := by
  funext k
  match k with
  | 0 => exact Fin.ext h₀
  | 1 => exact Fin.ext h₁
  | 2 => exact Fin.ext h₂

/-- The block of the first packed input at a step: 512 rows of it. -/
theorem xa_at (c : Dev nD) (t : Fin (cfgM m hO).N) (r : Fin 512) (l : Fin 256) (i : Fin 39424) (h : i.val = 512 * (t.val / 2) + r.val) :
    iblk m hO c 0 t (ix2 r l) = m ((c : Thread nD τ).loc main_arg2) (ix2 i l) := by
  have e0 := congrFun (idx t).1 0
  have e1 := congrFun (idx t).1 1
  refine congrArg (m ((c : Thread nD τ).loc main_arg2)) (is_ix2 _ i l ?_ ?_)
  · show cc0_transform_0 (grid0.coords t) 0 * 512 + 1 * r.val = i.val
    rw [e0, h]
    show t.val / 2 * 512 + _ = _
    omega
  · show cc0_transform_0 (grid0.coords t) 1 * 256 + 1 * l.val = l.val
    rw [e1]
    show 0 * 256 + _ = _
    omega

/-- The block of the second packed input at a step. -/
theorem xb_at (c : Dev nD) (t : Fin (cfgM m hO).N) (r : Fin 512) (l : Fin 256) (i : Fin 39424) (h : i.val = 512 * (t.val / 2) + r.val) :
    iblk m hO c 1 t (ix2 r l) = m ((c : Thread nD τ).loc main_arg3) (ix2 i l) := by
  have e0 := congrFun (idx t).2.1 0
  have e1 := congrFun (idx t).2.1 1
  refine congrArg (m ((c : Thread nD τ).loc main_arg3)) (is_ix2 _ i l ?_ ?_)
  · show cc0_transform_1 (grid0.coords t) 0 * 512 + 1 * r.val = i.val
    rw [e0, h]
    show t.val / 2 * 512 + _ = _
    omega
  · show cc0_transform_1 (grid0.coords t) 1 * 256 + 1 * l.val = l.val
    rw [e1]
    show 0 * 256 + _ = _
    omega

/-- The block of gates at a step. -/
theorem gates_at (c : Dev nD) (t : Fin (cfgM m hO).N) (r : Fin 512) (l : Fin 128) (i : Fin 39424) (h : i.val = 512 * (t.val / 2) + r.val) :
    gates m hO c t (ix2 r l) = m ((c : Thread nD τ).loc main_arg4) (ix2 i l) := by
  have e0 := congrFun (idx t).2.2.1 0
  have e1 := congrFun (idx t).2.2.1 1
  refine congrArg (m ((c : Thread nD τ).loc main_arg4)) (is_ix2 _ i l ?_ ?_)
  · show cc0_transform_2 (grid0.coords t) 0 * 512 + 1 * r.val = i.val
    rw [e0, h]
    show t.val / 2 * 512 + _ = _
    omega
  · show cc0_transform_2 (grid0.coords t) 1 * 128 + 1 * l.val = l.val
    rw [e1]
    show 0 * 128 + _ = _
    omega

/-- The word that places a step's weight blocks. -/
theorem word_at (t : Fin grid0.N) (j : Fin 77) (hj : j.val = t.val / 2) :
    (Pipeline.Prefetch.Contents.at (pre := pre0) (tbl m) 0 (Rect.unit (s := S77) ![(BitVec.ofNat 32 (grid0.coords t 0).val).toNat] S1.size
      (k0_off1_inb (grid0.coords t))) numel1_S1 : BitVec 32) = expert m j := by
  have key : ∀ x y : S77.Idx, (x 0).val = (y 0).val → x = y := fun x y e => funext fun a => by
    obtain rfl : a = 0 := Subsingleton.elim (α := Fin 1) _ _
    exact Fin.ext e
  refine congrArg (m (((0 : Dev nD) : Thread nD τ).loc main_arg0)) (key _ _ ?_)
  have hj' := j.isLt
  refine Eq.trans (b := (BitVec.ofNat 32 (grid0.coords t 0).val).toNat) ?_ ?_
  · rfl
  · rw [(coords_at t).1, BitVec.toNat_ofNat]
    show _ = j.val
    omega

/-- The second coordinate of a step as a word. -/
theorem half_at (t : Fin grid0.N) : (BitVec.ofNat 32 (grid0.coords t 1).val).toNat = t.val % 2 := by
  rw [(coords_at t).2, BitVec.toNat_ofNat]
  omega

/-- The step's block of the first weights: its expert's, of the step's half of the hidden lanes. -/
theorem w1_at (c : Dev nD) (t : Fin (cfgM m hO).N) (j : Fin 77) (hj : j.val = t.val / 2) (k : Fin 1024) (u : Fin 1792) (e : Fin 8)
    (he : e.val = (expert m j).toNat) (v : Fin 3584) (hv : v.val = 1792 * (t.val % 2) + u.val) :
    iblk m hO c 3 t (ix3 0 k u) = m ((c : Thread nD τ).loc main_arg5) (ix3 e k v) := by
  refine congrArg (m ((c : Thread nD τ).loc main_arg5)) (is_ix3 _ e k v ?_ ?_ ?_)
  · refine Eq.trans (b := (expert m j).toNat * 1 + 1 * 0) (congrArg (fun b : BitVec 32 => b.toNat * 1 + 1 * 0) (word_at m t j hj)) (by omega)
  · show 0 * 1024 + 1 * k.val = _
    omega
  · refine Eq.trans (b := t.val % 2 * 1792 + 1 * u.val) (congrArg (fun b : ℕ => b * 1792 + 1 * u.val) (half_at t)) (by omega)

/-- The step's block of the second weights. -/
theorem w3_at (c : Dev nD) (t : Fin (cfgM m hO).N) (j : Fin 77) (hj : j.val = t.val / 2) (k : Fin 1024) (u : Fin 1792) (e : Fin 8)
    (he : e.val = (expert m j).toNat) (v : Fin 3584) (hv : v.val = 1792 * (t.val % 2) + u.val) :
    iblk m hO c 4 t (ix3 0 k u) = m ((c : Thread nD τ).loc main_arg6) (ix3 e k v) := by
  refine congrArg (m ((c : Thread nD τ).loc main_arg6)) (is_ix3 _ e k v ?_ ?_ ?_)
  · refine Eq.trans (b := (expert m j).toNat * 1 + 1 * 0) (congrArg (fun b : BitVec 32 => b.toNat * 1 + 1 * 0) (word_at m t j hj)) (by omega)
  · show 0 * 1024 + 1 * k.val = _
    omega
  · refine Eq.trans (b := t.val % 2 * 1792 + 1 * u.val) (congrArg (fun b : ℕ => b * 1792 + 1 * u.val) (half_at t)) (by omega)

/-- The step's block of the third weights. -/
theorem w2_at (c : Dev nD) (t : Fin (cfgM m hO).N) (j : Fin 77) (hj : j.val = t.val / 2) (u : Fin 1792) (d : Fin 1024) (e : Fin 8)
    (he : e.val = (expert m j).toNat) (v : Fin 3584) (hv : v.val = 1792 * (t.val % 2) + u.val) :
    iblk m hO c 5 t (ix3 0 u d) = m ((c : Thread nD τ).loc main_arg7) (ix3 e v d) := by
  refine congrArg (m ((c : Thread nD τ).loc main_arg7)) (is_ix3 _ e v d ?_ ?_ ?_)
  · refine Eq.trans (b := (expert m j).toNat * 1 + 1 * 0) (congrArg (fun b : BitVec 32 => b.toNat * 1 + 1 * 0) (word_at m t j hj)) (by omega)
  · refine Eq.trans (b := t.val % 2 * 1792 + 1 * u.val) (congrArg (fun b : ℕ => b * 1792 + 1 * u.val) (half_at t)) (by omega)
  · show 0 * 1024 + 1 * d.val = _
    omega

variable (hN : Named m)

/-- Row `i`, lane `d` of the layer on the call's arguments. -/
def rows (i : Fin 39424) (d : Fin 1024) : EReal :=
  rowOut (fun j => ⟨(expert m j).toNat, hN _⟩) (inUse m).toInt
    (fun i l => m (((0 : Dev nD) : Thread nD τ).loc main_arg2) (ix2 i l)) (fun i l => m (((0 : Dev nD) : Thread nD τ).loc main_arg3) (ix2 i l))
    (fun i l => m (((0 : Dev nD) : Thread nD τ).loc main_arg4) (ix2 i l))
    (fun e k u => m (((0 : Dev nD) : Thread nD τ).loc main_arg5) (ix3 e k u)) (fun e k u => m (((0 : Dev nD) : Thread nD τ).loc main_arg6) (ix3 e k u))
    (fun e u d => m (((0 : Dev nD) : Thread nD τ).loc main_arg7) (ix3 e u d)) i d

/-- What hidden lane `u` adds to row `i`, lane `d`, through the expert of block `j`. -/
def part (j : Fin 77) (i : Fin 39424) (d : Fin 1024) (u : Fin 3584) : EReal :=
  unit (lane (fun l => m (((0 : Dev nD) : Thread nD τ).loc main_arg2) (ix2 i l)) (fun l => m (((0 : Dev nD) : Thread nD τ).loc main_arg3) (ix2 i l)))
      (fun k => m (((0 : Dev nD) : Thread nD τ).loc main_arg5) (ix3 ⟨(expert m j).toNat, hN _⟩ k u))
      (fun k => m (((0 : Dev nD) : Thread nD τ).loc main_arg6) (ix3 ⟨(expert m j).toNat, hN _⟩ k u))
    * (m (((0 : Dev nD) : Thread nD τ).loc main_arg7) (ix3 ⟨(expert m j).toNat, hN _⟩ u d) : EReal)

/-- A step's rows: the sum over its half of the hidden lanes. -/
theorem half_eq (t : Fin (cfgM m hO).N) (j : Fin 77) (hj : j.val = t.val / 2) (r : Fin 512) (d : Fin 1024) (i : Fin 39424)
    (hi : i.val = 512 * (t.val / 2) + r.val) (v : Fin 1792 → Fin 3584) (hv : ∀ u, (v u).val = 1792 * (t.val % 2) + u.val) :
    half m hO 0 t (ix2 r d)
      = ∑ u : Fin 1792, part m hN j i d (v u) := by
  refine (pay6_at _ _ _ _ _ r d).trans (Finset.sum_congr rfl fun u _ => ?_)
  refine congrArg₂ (fun a b : EReal => a * b) (congr (congr (congrArg unit (congrArg₂ lane ?_ ?_)) ?_) ?_) ?_
  · exact funext fun l => xa_at m hO 0 t r l i hi
  · exact funext fun l => xb_at m hO 0 t r l i hi
  · exact funext fun k => w1_at m hO 0 t j hj k u _ rfl (v u) (hv u)
  · exact funext fun k => w3_at m hO 0 t j hj k u _ rfl (v u) (hv u)
  · exact w2_at m hO 0 t j hj u d _ rfl (v u) (hv u)

/-- The block of an odd step is its rows of the layer. -/
theorem block_rows (t p : Fin (cfgM m hO).N) (h1 : t.val % 2 = 1) (hp : p.val + 1 = t.val) (j : Fin 77) (hj : j.val = t.val / 2)
    (r : Fin 512) (d : Fin 1024) (i : Fin 39424) (hi : i.val = 512 * (t.val / 2) + r.val) :
    blockOut m hO hN 0 t p j r d = rows m hN i d := by
  have ej : (⟨i.val / 512, by omega⟩ : Fin 77) = j := Fin.ext (by simp only; omega)
  have ei : i.val / 512 = j.val := congrArg Fin.val ej
  unfold blockOut rows rowOut
  rw [ej, ei]
  refine if_congr Iff.rfl ?_ rfl
  refine congrArg₂ (fun a b : EReal => a * b) ?_ ?_
  · refine (congrArg₂ (fun a b : EReal => a + b)
      (half_eq m hO hN p j (by omega) r d i (by omega) (fun u => ⟨u.val, by omega⟩) (fun u => by simp only; omega))
      (half_eq m hO hN t j hj r d i hi (fun u => ⟨1792 + u.val, by omega⟩) (fun u => by simp only; omega))).trans ?_
    exact (Fin.sum_univ_two_halves (M := EReal) 1792 1792 rfl (part m hN j i d)).symm
  · exact gates_at m hO 0 t r _ i hi

/-- The block of the first output at an odd step, at an index. -/
theorem after_6 (t : Fin (cfgM m hO).N) (h1 : t.val % 2 = 1) (y : S1024x256.Idx) (i : Fin 39424) (d : Fin 1024)
    (hi : i.val = (1024 * (t.val / 2) + (y 0).val) / 2)
    (hd : d.val = (if (1024 * (t.val / 2) + (y 0).val) % 2 = 0 then 256 else 0) + (y 1).val) :
    (outsAt0 m hO hH 0 t.val t.isLt).1 y = rows m hN i d := by
  have ht : t.val < 154 := lt_of_lt_of_eq t.isLt (show (cfgM m hO).N = 154 from N_0)
  have h0 : (y 0).val < 1024 := (y 0).isLt
  have h2 : (y 1).val < 256 := (y 1).isLt
  have ey : y = ix2 (y 0) (y 1) := eq_ix2 y
  rw [ey]
  refine (odd_6 m hO hH hN 0 t ⟨t.val - 1, by have := t.isLt; omega⟩ h1 (by simp only; omega) ⟨t.val / 2, by omega⟩ rfl (y 0) (y 1)).trans ?_
  refine (block_rows m hO hN t _ h1 (by simp only; omega) _ rfl _ _ i (by rw [hi]; simp only; omega)).trans (congrArg (rows m hN i) (Fin.ext ?_))
  rw [hd]
  simp only
  split <;> split <;> omega

/-- The first output array after the run. -/
theorem final_6 (c : Dev nD) : (dats m hO hH 0 c).arrAt 6 (cfgM m hO).N
    = fun i : S78848x256.Idx => rows m hN ⟨(i 0).val / 2, by have : (i 0).val < 78848 := (i 0).isLt; omega⟩
        ⟨(if (i 0).val % 2 = 0 then 256 else 0) + (i 1).val, by have : (i 1).val < 256 := (i 1).isLt; split <;> omega⟩ := by
  obtain rfl : c = 0 := Subsingleton.elim _ _
  refine (dats m hO hH 0 0).arrAt_eq_of_emb 6 _ (fun t hf y => ?_) fun i => ?_
  · have h1 : t.val % 2 = 1 := (flush0_6 _ t).1 hf
    have ht : t.val < 154 := lt_of_lt_of_eq t.isLt (show (cfgM m hO).N = 154 from N_0)
    have e0 : cc0_transform_6 (grid0.coords t) 0 * 1024 = 1024 * (t.val / 2) := by
      rw [congrFun (idx t).2.2.2.1 0]
      show t.val / 2 * 1024 = _
      omega
    have e1 : cc0_transform_6 (grid0.coords t) 1 * 256 = 0 := by
      rw [congrFun (idx t).2.2.2.1 1]
      rfl
    have key : ∀ y : S1024x256.Idx, (outsAt0 m hO hH 0 t.val t.isLt).1 y
        = rows m hN ⟨(cc0_transform_6 (grid0.coords t) 0 * 1024 + 1 * (y 0).val) / 2, by have : (y 0).val < 1024 := (y 0).isLt; omega⟩
          ⟨(if (cc0_transform_6 (grid0.coords t) 0 * 1024 + 1 * (y 0).val) % 2 = 0 then 256 else 0)
            + (cc0_transform_6 (grid0.coords t) 1 * 256 + 1 * (y 1).val), by have : (y 1).val < 256 := (y 1).isLt; split <;> omega⟩ := by
      intro y
      refine after_6 m hO hH hN t h1 y _ _ ?_ ?_
      · simp only; rw [e0, Nat.one_mul]
      · simp only; rw [e0, e1, Nat.one_mul, Nat.one_mul, Nat.zero_add]
    exact key y
  · obtain ⟨i, rfl⟩ : ∃ j : S78848x256.Idx, j = i := ⟨i, rfl⟩
    have hi : (i 0).val < 78848 := (i 0).isLt
    have hN' : (cfgM m hO).N = 154 := N_0
    let t : Fin (cfgM m hO).N := ⟨2 * ((i 0).val / 1024) + 1, by omega⟩
    refine ⟨t, (flush0_6 _ t).2 (by show (2 * ((i 0).val / 1024) + 1) % 2 = 1; omega), ?_⟩
    have et : t.val / 2 = (i 0).val / 1024 := by show (2 * ((i 0).val / 1024) + 1) / 2 = _; omega
    refine (Pipeline.Window.emb_mem_blk_iff ((cfgM m hO).win 6) t i rfl).2 fun a => ?_
    have key : ∀ a : Fin 2, cc0_transform_6 (grid0.coords t) a * S1024x256.size a ≤ (i a).val
        ∧ (i a).val < cc0_transform_6 (grid0.coords t) a * S1024x256.size a + S1024x256.size a := by
      intro a
      have h2 : (i 1).val < 256 := (i 1).isLt
      match a with
      | 0 =>
        rw [congrFun (idx t).2.2.2.1 0]
        show t.val / 2 * 1024 ≤ (i 0).val ∧ (i 0).val < t.val / 2 * 1024 + 1024
        omega
      | 1 =>
        rw [congrFun (idx t).2.2.2.1 1]
        show 0 * 256 ≤ (i 1).val ∧ (i 1).val < 0 * 256 + 256
        omega
    exact key a

/-- The block of the second output at an odd step, at an index. -/
theorem after_7 (t : Fin (cfgM m hO).N) (h1 : t.val % 2 = 1) (y : S1024x256.Idx) (i : Fin 39424) (d : Fin 1024)
    (hi : i.val = (1024 * (t.val / 2) + (y 0).val) / 2)
    (hd : d.val = (if (1024 * (t.val / 2) + (y 0).val) % 2 = 0 then 768 else 512) + (y 1).val) :
    (outsAt0 m hO hH 0 t.val t.isLt).2.1 y = rows m hN i d := by
  have ht : t.val < 154 := lt_of_lt_of_eq t.isLt (show (cfgM m hO).N = 154 from N_0)
  have h0 : (y 0).val < 1024 := (y 0).isLt
  have h2 : (y 1).val < 256 := (y 1).isLt
  have ey : y = ix2 (y 0) (y 1) := eq_ix2 y
  rw [ey]
  refine (odd_7 m hO hH hN 0 t ⟨t.val - 1, by have := t.isLt; omega⟩ h1 (by simp only; omega) ⟨t.val / 2, by omega⟩ rfl (y 0) (y 1)).trans ?_
  refine (block_rows m hO hN t _ h1 (by simp only; omega) _ rfl _ _ i (by rw [hi]; simp only; omega)).trans (congrArg (rows m hN i) (Fin.ext ?_))
  rw [hd]
  simp only
  split <;> split <;> omega

/-- The second output array after the run. -/
theorem final_7 (c : Dev nD) : (dats m hO hH 0 c).arrAt 7 (cfgM m hO).N
    = fun i : S78848x256.Idx => rows m hN ⟨(i 0).val / 2, by have : (i 0).val < 78848 := (i 0).isLt; omega⟩
        ⟨(if (i 0).val % 2 = 0 then 768 else 512) + (i 1).val, by have : (i 1).val < 256 := (i 1).isLt; split <;> omega⟩ := by
  obtain rfl : c = 0 := Subsingleton.elim _ _
  refine (dats m hO hH 0 0).arrAt_eq_of_emb 7 _ (fun t hf y => ?_) fun i => ?_
  · have h1 : t.val % 2 = 1 := (flush0_7 _ t).1 hf
    have ht : t.val < 154 := lt_of_lt_of_eq t.isLt (show (cfgM m hO).N = 154 from N_0)
    have e0 : cc0_transform_7 (grid0.coords t) 0 * 1024 = 1024 * (t.val / 2) := by
      rw [congrFun (idx t).2.2.2.2 0]
      show t.val / 2 * 1024 = _
      omega
    have e1 : cc0_transform_7 (grid0.coords t) 1 * 256 = 0 := by
      rw [congrFun (idx t).2.2.2.2 1]
      rfl
    have key : ∀ y : S1024x256.Idx, (outsAt0 m hO hH 0 t.val t.isLt).2.1 y
        = rows m hN ⟨(cc0_transform_7 (grid0.coords t) 0 * 1024 + 1 * (y 0).val) / 2, by have : (y 0).val < 1024 := (y 0).isLt; omega⟩
          ⟨(if (cc0_transform_7 (grid0.coords t) 0 * 1024 + 1 * (y 0).val) % 2 = 0 then 768 else 512)
            + (cc0_transform_7 (grid0.coords t) 1 * 256 + 1 * (y 1).val), by have : (y 1).val < 256 := (y 1).isLt; split <;> omega⟩ := by
      intro y
      refine after_7 m hO hH hN t h1 y _ _ ?_ ?_
      · simp only; rw [e0, Nat.one_mul]
      · simp only; rw [e0, e1, Nat.one_mul, Nat.one_mul, Nat.zero_add]
    exact key y
  · obtain ⟨i, rfl⟩ : ∃ j : S78848x256.Idx, j = i := ⟨i, rfl⟩
    have hi : (i 0).val < 78848 := (i 0).isLt
    have hN' : (cfgM m hO).N = 154 := N_0
    let t : Fin (cfgM m hO).N := ⟨2 * ((i 0).val / 1024) + 1, by omega⟩
    refine ⟨t, (flush0_7 _ t).2 (by show (2 * ((i 0).val / 1024) + 1) % 2 = 1; omega), ?_⟩
    have et : t.val / 2 = (i 0).val / 1024 := by show (2 * ((i 0).val / 1024) + 1) / 2 = _; omega
    refine (Pipeline.Window.emb_mem_blk_iff ((cfgM m hO).win 7) t i rfl).2 fun a => ?_
    have key : ∀ a : Fin 2, cc0_transform_7 (grid0.coords t) a * S1024x256.size a ≤ (i a).val
        ∧ (i a).val < cc0_transform_7 (grid0.coords t) a * S1024x256.size a + S1024x256.size a := by
      intro a
      have h2 : (i 1).val < 256 := (i 1).isLt
      match a with
      | 0 =>
        rw [congrFun (idx t).2.2.2.2 0]
        show t.val / 2 * 1024 ≤ (i 0).val ∧ (i 0).val < t.val / 2 * 1024 + 1024
        omega
      | 1 =>
        rw [congrFun (idx t).2.2.2.2 1]
        show 0 * 256 ≤ (i 1).val ∧ (i 1).val < 0 * 256 + 256
        omega
    exact key a

end Cert.Kernel2Ideal.Experts

end
-- ==== Proof.ExpertsReference.lean ====
/- The plain expert layer, read at an index: every row through every expert, each result times its gate, which is zero but of the
   row's own expert, and the sum over the experts. -/
module

public import proofs.«01_k».proof.Proof.Gen.Reference2Ideal.Run
public import proofs.«01_k».proof.Proof.ExpertsMath
public import Idealize.ShloMosaic.Lib.Pointwise
public import Idealize.ShloMosaic.Lib.IdealHost

@[expose] public section
set_option maxRecDepth 16384
noncomputable section
open Idealize.ShloMosaic Idealize.ShloMosaic.TcCoe Idealize.SL.Sem Idealize.ShloMosaic.StableHlo
namespace Cert.Reference2Ideal.Experts
open Cert.Reference2Ideal Cert.Reference2Ideal.Gen Cert.Experts

/-- The rows that the two packed inputs hold. -/
def unpacked (a b : Vec Ideal S39424x256 .i32) : FVec Ideal S39424x1024 .bf16 :=
  truncf .bf16 ((concatenate S39424x1024 1 [⟨S39424x256, ((bitcastToFloat (F := Ideal) .f32 (andi a (broadcastInDim S39424x256 ![] bcast_S_S39424x256 (constantI S_ 32 4294901760#32)))) : (⟨S39424x256, .f32⟩ : BufTy).Contents (Elt Ideal))⟩, ⟨S39424x256, ((bitcastToFloat (F := Ideal) .f32 (Host.shli a (broadcastInDim S39424x256 ![] bcast_S_S39424x256 (constantI S_ 32 16#32)))) : (⟨S39424x256, .f32⟩ : BufTy).Contents (Elt Ideal))⟩, ⟨S39424x256, ((bitcastToFloat (F := Ideal) .f32 (andi b (broadcastInDim S39424x256 ![] bcast_S_S39424x256 (constantI S_ 32 4294901760#32)))) : (⟨S39424x256, .f32⟩ : BufTy).Contents (Elt Ideal))⟩, ⟨S39424x256, ((bitcastToFloat (F := Ideal) .f32 (Host.shli b (broadcastInDim S39424x256 ![] bcast_S_S39424x256 (constantI S_ 32 16#32)))) : (⟨S39424x256, .f32⟩ : BufTy).Contents (Elt Ideal))⟩] concatenates_S39424x256_S39424x256_S39424x256_S39424x256_S39424x1024_d1 : (⟨S39424x1024, .f32⟩ : BufTy).Contents (Elt Ideal))) bitsLt_bf16_f32

/-- Every row's products with an expert's weights. -/
def up (w : FVec Ideal S8x1024x3584 .bf16) (x : FVec Ideal S39424x1024 .bf16) : FVec Ideal S8x39424x3584 .f32 :=
  transpose S8x39424x3584 [0, 2, 1] (Host.dotGeneral dot_S8x1024x3584_S39424x1024_S8x3584x39424_1_1_02_0_n_n none w x) transposes_S8x3584x39424_S8x39424x3584_0_2_1

/-- The gated hidden lanes. -/
def lanes (a b : FVec Ideal S8x39424x3584 .f32) : FVec Ideal S8x39424x3584 .bf16 :=
  truncf .bf16 (mulf (mulf a (Host.divf (broadcastInDim S8x39424x3584 ![] bcast_S_S8x39424x3584 (constant S_ .f32 0x3F800000#32)) (addf (broadcastInDim S8x39424x3584 ![] bcast_S_S8x39424x3584 (constant S_ .f32 0x3F800000#32)) (Host.exp (Host.negf a))))) b) bitsLt_bf16_f32

/-- Every row through every expert. -/
def down (h : FVec Ideal S8x39424x3584 .bf16) (w : FVec Ideal S8x3584x1024 .bf16) : FVec Ideal S8x39424x1024 .f32 :=
  Host.dotGeneral dot_S8x39424x3584_S8x3584x1024_S8x39424x1024_2_1_1_2_0_0 none h w

/-- The number of each row's block. -/
def block : Vec Ideal S39424 .i32 :=
  select (andi (cmpi .ne (signi (iotaInDim S39424 32 0)) (broadcastInDim S39424 ![] bcast_S_S39424 (signi (id (constantI S_ 32 512#32))))) (cmpi .ne (Host.remsi (iotaInDim S39424 32 0) (broadcastInDim S39424 ![] bcast_S_S39424 (id (constantI S_ 32 512#32)))) (broadcastInDim S39424 ![] bcast_S_S39424 (constantI S_ 32 0#32)))) (subi (Host.divsi (iotaInDim S39424 32 0) (broadcastInDim S39424 ![] bcast_S_S39424 (id (constantI S_ 32 512#32)))) (broadcastInDim S39424 ![] bcast_S_S39424 (constantI S_ 32 1#32))) (Host.divsi (iotaInDim S39424 32 0) (broadcastInDim S39424 ![] bcast_S_S39424 (id (constantI S_ 32 512#32))))

/-- Which expert each row's block names. -/
def named (be : Vec Ideal S77 .i32) : Vec Ideal S39424x8 .i1 :=
  cmpi .eq (broadcastInDim S39424x8 ![0, 1] bcast_S39424x1_S39424x8_0_1 (broadcastInDim S39424x1 ![0] bcast_S39424_S39424x1_0 (shapeCast _ (broadcastInDim S77x512 ![0, 1] bcast_S77x1_S77x512_0_1 (broadcastInDim S77x1 ![0] bcast_S77_S77x1_0 be)) shapeCasts_S77x512_S39424))) (broadcastInDim S39424x8 ![0, 1] bcast_S1x8_S39424x8_0_1 (broadcastInDim S1x8 ![1] bcast_S8_S1x8_1 (iotaInDim S8 32 0)))

/-- Which rows' blocks are in use. -/
def used (nu : Vec Ideal S1 .i32) : Vec Ideal S39424x8 .i1 :=
  broadcastInDim S39424x8 ![0, 1] bcast_S39424x1_S39424x8_0_1 (cmpi .slt (broadcastInDim S39424x1 ![0] bcast_S39424_S39424x1_0 block) (broadcastInDim S39424x1 ![0, 1] bcast_S1x1_S39424x1_0_1 (broadcastInDim S1x1 ![1] bcast_S1_S1x1_1 nu)))

/-- Each row's gate of its own expert, zero elsewhere. -/
def gate (be : Vec Ideal S77 .i32) (nu : Vec Ideal S1 .i32) (g : FVec Ideal S39424x128 .f32) : FVec Ideal S39424x8 .f32 :=
  select (andi (named be) (used nu)) (extractStridedSlice S39424x8 ![0, 0] g slices_S39424x128_S39424x8_0_0) (broadcastInDim S39424x8 ![] bcast_S_S39424x8 (id (constant S_ .f32 0x00000000#32)))

/-- The gated sum over the experts. -/
def mixed (g : FVec Ideal S39424x8 .f32) (y : FVec Ideal S8x39424x1024 .f32) : FVec Ideal S39424x1024 .bf16 :=
  truncf .bf16 (Host.reduceAdd (mulf (broadcastInDim S8x39424x1024 ![0, 1, 2] bcast_S8x39424x1_S8x39424x1024_0_1_2 (broadcastInDim S8x39424x1 ![0, 1] bcast_S8x39424_S8x39424x1_0_1 (transpose S8x39424 [1, 0] g transposes_S39424x8_S8x39424_1_0))) y) (constant S_ .f32 0x00000000#32) reducesTo_S8x39424x1024_S39424x1024_d0 h_S_) bitsLt_bf16_f32

/-- The first 512 lanes of the rows, in two rows of 256. -/
def packed0 (o : FVec Ideal S39424x1024 .bf16) : FVec Ideal S78848x256 .bf16 :=
  shapeCast _ (concatenate S39424x2x256 1 [⟨S39424x1x256, (broadcastInDim S39424x1x256 ![0, 2] bcast_S39424x256_S39424x1x256_0_2 (extractStridedSlice S39424x256 ![0, 256] o slices_S39424x1024_S39424x256_0_256))⟩, ⟨S39424x1x256, (broadcastInDim S39424x1x256 ![0, 2] bcast_S39424x256_S39424x1x256_0_2 (extractStridedSlice S39424x256 ![0, 0] o slices_S39424x1024_S39424x256_0_0))⟩] concatenates_S39424x1x256_S39424x1x256_S39424x2x256_d1) shapeCasts_S39424x2x256_S78848x256

/-- The last 512 lanes of the rows, in two rows of 256. -/
def packed1 (o : FVec Ideal S39424x1024 .bf16) : FVec Ideal S78848x256 .bf16 :=
  shapeCast _ (concatenate S39424x2x256 1 [⟨S39424x1x256, (broadcastInDim S39424x1x256 ![0, 2] bcast_S39424x256_S39424x1x256_0_2 (extractStridedSlice S39424x256 ![0, 768] o slices_S39424x1024_S39424x256_0_768))⟩, ⟨S39424x1x256, (broadcastInDim S39424x1x256 ![0, 2] bcast_S39424x256_S39424x1x256_0_2 (extractStridedSlice S39424x256 ![0, 512] o slices_S39424x1024_S39424x256_0_512))⟩] concatenates_S39424x1x256_S39424x1x256_S39424x2x256_d1) shapeCasts_S39424x2x256_S78848x256

/-- The layer's rows on the arguments. -/
def out (be : Vec Ideal S77 .i32) (nu : Vec Ideal S1 .i32) (a b : Vec Ideal S39424x256 .i32) (g : FVec Ideal S39424x128 .f32)
    (w1 w3 : FVec Ideal S8x1024x3584 .bf16) (w2 : FVec Ideal S8x3584x1024 .bf16) : FVec Ideal S39424x1024 .bf16 :=
  mixed (gate be nu g) (down (lanes (up w1 (unpacked a b)) (up w3 (unpacked a b))) w2)

variable (m : (ℓ : Loc nD τ sig) → Buf (Elt Ideal) ℓ)

/-- The first result is the layer's first 512 lanes. -/
theorem res_eq0 (c : Dev nD) : Value.res_out0 (F := Ideal) m c
    = packed0 (out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) := rfl

/-- The second result is the layer's last 512 lanes. -/
theorem res_eq1 (c : Dev nD) : Value.res_out1 (F := Ideal) m c
    = packed1 (out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) := rfl

/-- A row's lanes. -/
theorem unpacked_at (a b : Vec Ideal S39424x256 .i32) (i : Fin 39424) (k : Fin 1024) :
    unpacked a b (ix2 i k) = lane (fun l => a (ix2 i l)) (fun l => b (ix2 i l)) k := by
  refine Eq.trans ?_ (lane_eq _ _ k .host)
  pointwise [unpacked]

/-- A hidden lane's product: the row against the weight column. -/
theorem up_at (w : FVec Ideal S8x1024x3584 .bf16) (x : FVec Ideal S39424x1024 .bf16) (e : Fin 8) (i : Fin 39424) (u : Fin 3584) :
    up w x (ix3 e i u) = ∑ k : Fin 1024, x (ix2 i k) * w (ix3 e k u) := by
  pointwise [up]
  exact Finset.sum_congr rfl fun k _ => mul_comm _ _

/-- The gate at an index. -/
theorem lanes_at (a b : FVec Ideal S8x39424x3584 .f32) (j : S8x39424x3584.Idx) : lanes a b j = gated (a j) (b j) := by
  pointwise [lanes]
  rfl

/-- A result lane: the hidden lanes against the weight column. -/
theorem down_at (h : FVec Ideal S8x39424x3584 .bf16) (w : FVec Ideal S8x3584x1024 .bf16) (e : Fin 8) (i : Fin 39424) (d : Fin 1024) :
    down h w (ix3 e i d) = ∑ u : Fin 3584, h (ix3 e i u) * w (ix3 e u d) := by
  pointwise [down]

/-- The floored quotient by 512 of a word that is not negative, as the array operations take it. -/
theorem word_div (n : ℕ) (hn : n < 2 ^ 31) :
    Scalar.select (IntOp.andi
        (IntOp.cmpi .ne (if BitVec.ofNat 32 n = 0 then (0 : BitVec 32) else if (BitVec.ofNat 32 n).msb = true then -1 else 1)
          (if (512#32 : BitVec 32) = 0 then (0 : BitVec 32) else if (512#32 : BitVec 32).msb = true then -1 else 1))
        (IntOp.cmpi .ne (IntOp.remsi .host (BitVec.ofNat 32 n) 512#32) 0#32))
      (IntOp.subi (IntOp.divsi .host (BitVec.ofNat 32 n) 512#32) 1#32) (IntOp.divsi .host (BitVec.ofNat 32 n) 512#32)
      = BitVec.ofNat 32 (n / 512) := by
  have hm : (BitVec.ofNat 32 n).msb = false := by
    rw [BitVec.msb_eq_false_iff_two_mul_lt, BitVec.toNat_ofNat]
    omega
  have hc : ¬ IntOp.SDivCorner (BitVec.ofNat 32 n) (512#32) := by
    unfold IntOp.SDivCorner
    have h1 : (512#32 : BitVec 32) ≠ 0 := by decide
    have h2 : (512#32 : BitVec 32) ≠ -1 := by decide
    tauto
  have hd : IntOp.divsi .host (BitVec.ofNat 32 n) 512#32 = BitVec.ofNat 32 (n / 512) := by
    unfold IntOp.divsi
    rw [if_neg hc, BitVec.sdiv_eq, hm]
    apply BitVec.eq_of_toNat_eq
    show (BitVec.udiv (BitVec.ofNat 32 n) 512#32).toNat = _
    simp only [BitVec.udiv_eq, BitVec.toNat_udiv, BitVec.toNat_ofNat]
    show n % 4294967296 / 512 = n / 512 % 4294967296
    omega
  have hr : IntOp.remsi .host (BitVec.ofNat 32 n) 512#32 = BitVec.ofNat 32 (n % 512) := by
    unfold IntOp.remsi
    rw [if_neg hc, BitVec.srem_eq, hm]
    apply BitVec.eq_of_toNat_eq
    show (BitVec.umod (BitVec.ofNat 32 n) 512#32).toNat = _
    simp only [BitVec.umod_eq, BitVec.toNat_umod, BitVec.toNat_ofNat]
    show n % 4294967296 % 512 = n % 512 % 4294967296
    omega
  rw [hd, hr, hm]
  refine if_neg (fun h => absurd (IntOp.andi_eq_one.1 h) ?_)
  rintro ⟨h1, h2⟩
  by_cases hz : n = 0
  · subst hz
    revert h2
    decide
  · have : BitVec.ofNat 32 n ≠ 0 := by
      intro h
      have := congrArg BitVec.toNat h
      simp only [BitVec.toNat_ofNat] at this
      change n % 2 ^ 32 = 0 at this
      omega
    rw [if_neg this] at h1
    revert h1
    decide

/-- Each row's block is the quotient of its number by 512. -/
theorem block_at (i : Fin 39424) : block (ix1 i) = BitVec.ofNat 32 (i.val / 512) := by
  pointwise [block]
  exact word_div i.val (by omega)

/-- Whether a row's block names an expert. -/
theorem named_at (be : Vec Ideal S77 .i32) (i : Fin 39424) (e : Fin 8) :
    named be (ix2 i e) = IntOp.cmpi .eq (be (ix1 ⟨i.val / 512, by omega⟩)) (BitVec.ofNat 32 e.val) := by
  pointwise [named]

/-- Whether a row's block is in use. -/
theorem used_at (nu : Vec Ideal S1 .i32) (i : Fin 39424) (e : Fin 8) :
    used nu (ix2 i e) = IntOp.cmpi .slt (block (ix1 i)) (nu (ix1 0)) := by
  pointwise [used]

/-- A row's gate for an expert. -/
theorem gate_at (be : Vec Ideal S77 .i32) (nu : Vec Ideal S1 .i32) (g : FVec Ideal S39424x128 .f32) (i : Fin 39424) (e : Fin 8) :
    gate be nu g (ix2 i e) = if IntOp.andi (named be (ix2 i e)) (used nu (ix2 i e)) = 1#1 then g (ix2 i (e.castLE (by decide))) else 0 := by
  pointwise [gate]
  have e : (id (constant (F := Ideal) S_ .f32 0#32) ix0 : EReal) = 0 := by
    show Ideal.ofBits .f32 0#32 = 0
    simp
  rw [e]
  rfl

/-- The gated sum over the experts, at an index. -/
theorem mixed_at (g : FVec Ideal S39424x8 .f32) (y : FVec Ideal S8x39424x1024 .f32) (i : Fin 39424) (d : Fin 1024) :
    mixed g y (ix2 i d) = ∑ e : Fin 8, g (ix2 i e) * y (ix3 e i d) := by
  pointwise [mixed]

/-- The first result at an index. -/
theorem packed0_at (o : FVec Ideal S39424x1024 .bf16) (R : Fin 78848) (l : Fin 256) :
    packed0 o (ix2 R l) = o (ix2 ⟨R.val / 2, by omega⟩ ⟨(if R.val % 2 = 0 then 256 else 0) + l.val, by split <;> omega⟩) := by
  pointwise [packed0]
  split
  · next h => exact congrArg o (congrArg (ix2 _) (Fin.ext (by simp only; rw [if_pos (by omega)])))
  · next h => exact congrArg o (congrArg (ix2 _) (Fin.ext (by simp only; rw [if_neg (by omega)]; try omega)))

/-- The second result at an index. -/
theorem packed1_at (o : FVec Ideal S39424x1024 .bf16) (R : Fin 78848) (l : Fin 256) :
    packed1 o (ix2 R l) = o (ix2 ⟨R.val / 2, by omega⟩ ⟨(if R.val % 2 = 0 then 768 else 512) + l.val, by split <;> omega⟩) := by
  pointwise [packed1]
  split
  · next h => exact congrArg o (congrArg (ix2 _) (Fin.ext (by simp only; rw [if_pos (by omega)])))
  · next h => exact congrArg o (congrArg (ix2 _) (Fin.ext (by simp only; rw [if_neg (by omega)]; try omega)))

/-- Every row of the layer: through the expert that its block names, times that expert's gate; zero if its block is not in use. -/
theorem out_at (be : Vec Ideal S77 .i32) (nu : Vec Ideal S1 .i32) (a b : Vec Ideal S39424x256 .i32) (g : FVec Ideal S39424x128 .f32)
    (w1 w3 : FVec Ideal S8x1024x3584 .bf16) (w2 : FVec Ideal S8x3584x1024 .bf16) (hN : ∀ i, (be i : BitVec 32).toNat < 8)
    (i : Fin 39424) (d : Fin 1024) :
    out be nu a b g w1 w3 w2 (ix2 i d)
      = rowOut (fun j => ⟨(be (ix1 j) : BitVec 32).toNat, hN _⟩) (nu (ix1 0) : BitVec 32).toInt (fun i l => a (ix2 i l)) (fun i l => b (ix2 i l))
          (fun i l => g (ix2 i l)) (fun e k u => w1 (ix3 e k u)) (fun e k u => w3 (ix3 e k u)) (fun e u d => w2 (ix3 e u d)) i d := by
  unfold out
  rw [mixed_at]
  have hi := i.isLt
  have key : ∀ e : Fin 8, IntOp.andi (named be (ix2 i e)) (used nu (ix2 i e)) = 1#1
      ↔ (⟨(be (ix1 ⟨i.val / 512, by omega⟩) : BitVec 32).toNat, hN _⟩ : Fin 8) = e ∧ ((i.val / 512 : ℕ) : ℤ) < (nu (ix1 0) : BitVec 32).toInt := by
    intro e
    have hb : (BitVec.ofNat 32 (i.val / 512)).toInt = ((i.val / 512 : ℕ) : ℤ) := by
      rw [BitVec.toInt_eq_toNat_cond, BitVec.toNat_ofNat]
      split <;> omega
    rw [IntOp.andi_eq_one, named_at, used_at, block_at, IntOp.cmpi_eq, IntOp.cmpi_slt, hb]
    refine and_congr ?_ Iff.rfl
    have he := e.isLt
    constructor
    · intro h
      refine Fin.ext ((congrArg BitVec.toNat h).trans ?_)
      show (BitVec.ofNat 32 e.val).toNat = e.val
      rw [BitVec.toNat_ofNat]
      omega
    · intro h
      apply BitVec.eq_of_toNat_eq
      rw [BitVec.toNat_ofNat]
      have := congrArg Fin.val h
      simp only at this
      omega
  unfold rowOut
  split
  · next h =>
    refine (Finset.sum_eq_single (⟨(be (ix1 ⟨i.val / 512, by omega⟩) : BitVec 32).toNat, hN _⟩ : Fin 8) (fun e _ he => ?_)
      (fun h => absurd (Finset.mem_univ _) h)).trans ?_
    · rw [gate_at, if_neg (fun hk => he ((key e).1 hk).1.symm), zero_mul]
    · rw [gate_at, if_pos ((key _).2 ⟨rfl, h⟩), mul_comm, down_at]
      refine congrArg₂ (fun a b : EReal => a * b) (Finset.sum_congr rfl fun u _ => ?_) rfl
      rw [lanes_at, up_at, up_at]
      simp only [unpacked_at]
      rfl
  · next h =>
    refine Finset.sum_eq_zero fun e _ => ?_
    rw [gate_at, if_neg (fun hk => h ((key e).1 hk).2), zero_mul]

end Cert.Reference2Ideal.Experts

end
-- ==== Proof.ExpertsEquation.lean ====
/- The expert kernel's arrays are the plain layer's: both are the same rows of the same arguments. -/
module

public import proofs.«01_k».proof.Proof.ExpertsArray
public import proofs.«01_k».proof.Proof.ExpertsReference

@[expose] public section
set_option maxRecDepth 16384
noncomputable section
open Idealize.ShloMosaic Idealize.ShloMosaic.TcCoe Idealize.SL.Sem
namespace Cert.ExpertsEquation
open Cert.Kernel2Ideal Cert.Reference2Ideal.Experts

variable (m : (ℓ : Loc nD τ sig) → Buf (Elt Ideal) ℓ) (hO : Gen.Ok m) (hH : Gen.Hyps m hO)

/-- The layer on the kernel's arguments, as the reference computes it. -/
abbrev layer (c : Dev nD) : FVec Ideal Cert.Reference2Ideal.S39424x1024 .bf16 :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The reference's rows are the kernel's. -/
theorem layer_at (hN : Experts.Named m) (i : Fin 39424) (d : Fin 1024) : layer m 0 (ix2 i d) = Experts.rows m hN i d :=
  out_at _ _ _ _ _ _ _ _ hN i d

/-- The first result. -/
theorem equation0 (hN : Experts.Named m) (c : Dev nD) : packed0 (layer m c) = (Gen.dats m hO hH 0 c).arrAt 6 (Gen.cfgM m hO).N := by
  refine Eq.trans ?_ (Experts.final_6 m hO hH hN c).symm
  obtain rfl : c = 0 := Subsingleton.elim _ _
  funext i
  refine (congrArg _ (eq_ix2 i)).trans ((packed0_at _ (i 0) (i 1)).trans ?_)
  exact layer_at m hN _ _

/-- The second result. -/
theorem equation1 (hN : Experts.Named m) (c : Dev nD) : packed1 (layer m c) = (Gen.dats m hO hH 0 c).arrAt 7 (Gen.cfgM m hO).N := by
  refine Eq.trans ?_ (Experts.final_7 m hO hH hN c).symm
  obtain rfl : c = 0 := Subsingleton.elim _ _
  funext i
  refine (congrArg _ (eq_ix2 i)).trans ((packed1_at _ (i 0) (i 1)).trans ?_)
  exact layer_at m hN _ _

end Cert.ExpertsEquation

end
-- ==== Proof.FfnMath.lean ====
/- The plain sums of an output projection with its residual, a row norm and a gated feed-forward layer over the extended reals,
   which both the kernel and the reference come to. -/
module

public import proofs.«01_k».proof.Proof.ExpertsMath

@[expose] public section
noncomputable section
open Idealize.ShloMosaic
namespace Cert.Ffn
open Cert.Experts (unit)

/-- Four rows of 256 lanes side by side. -/
def quarters (o : Fin 4 → Fin 256 → EReal) (k : Fin 1024) : EReal := o ⟨k.val / 256, by omega⟩ ⟨k.val % 256, by omega⟩

/-- Row `i` of the prompt's rows with the samples' below them. -/
def source {n : ℕ} (a : Fin 16384 → Fin n → EReal) (b : Fin 1024 → Fin n → EReal) (i : Fin 17408) (k : Fin n) : EReal :=
  if h : i.val < 16384 then a ⟨i.val, h⟩ k else b ⟨i.val - 16384, by omega⟩ k

/-- Four rows of 256 lanes, as their concatenation reads. -/
theorem quarters_eq {A : Type} (a b c d : A) (f : A → Fin 256 → EReal) (k : Fin 1024) :
    (if h : k.val < 256 then f a ⟨k.val, h⟩
      else if h : k.val - 256 < 256 then f b ⟨k.val - 256, h⟩
      else if h : k.val - 256 - 256 < 256 then f c ⟨k.val - 256 - 256, h⟩
      else f d ⟨k.val - 256 - 256 - 256, by omega⟩) = quarters (fun q l => f (![a, b, c, d] q) l) k := by
  have hk := k.isLt
  unfold quarters
  have key : ∀ (q : Fin 4) (l : Fin 256), k.val = 256 * q.val + l.val →
      f (![a, b, c, d] ⟨k.val / 256, by omega⟩) ⟨k.val % 256, by omega⟩ = f (![a, b, c, d] q) l := by
    intro q l h
    have hl := l.isLt
    have e1 : (⟨k.val / 256, by omega⟩ : Fin 4) = q := Fin.ext (by simp only; omega)
    have e2 : (⟨k.val % 256, by omega⟩ : Fin 256) = l := Fin.ext (by simp only; omega)
    rw [e1, e2]
  split
  · exact (key 0 ⟨k.val, by omega⟩ (by simp)).symm
  split
  · exact (key 1 ⟨k.val - 256, by omega⟩ (by simp only [Fin.val_one]; omega)).symm
  split
  · exact (key 2 ⟨k.val - 256 - 256, by omega⟩ (by simp only [Fin.val_two]; omega)).symm
  · exact (key 3 ⟨k.val - 256 - 256 - 256, by omega⟩ (by show _ = 256 * 3 + _; simp only; omega)).symm

/-- A row with the projection of another added. -/
def residual (x o : Fin 1024 → EReal) (w : Fin 1024 → Fin 1024 → EReal) (d : Fin 1024) : EReal := x d + ∑ k, o k * w k d

/-- A row divided by the root of its mean square, times a gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- A row's gated hidden lanes against a column of weights. -/
def feed (x : Fin 1024 → EReal) (w1 w3 : Fin 1024 → Fin 2816 → EReal) (w2 : Fin 2816 → Fin 1024 → EReal) (d : Fin 1024) : EReal :=
  ∑ u, unit x (fun k => w1 k u) (fun k => w3 k u) * w2 u d

/-- A row of the layer: the residual with the feed-forward of its norm added. -/
def rowOut (x o : Fin 1024 → EReal) (w : Fin 1024 → Fin 1024 → EReal) (g : Fin 1024 → EReal)
    (w1 w3 : Fin 1024 → Fin 2816 → EReal) (w2 : Fin 2816 → Fin 1024 → EReal) (d : Fin 1024) : EReal :=
  residual x o w d + feed (normed (residual x o w) g) w1 w3 w2 d

/-- A sum over a number of equal parts is the sum of the parts' sums. -/
theorem sum_parts {n : ℕ} (f : Fin (n + n) → EReal) :
    ∑ k, f k = (∑ k : Fin n, f (Fin.castAdd n k)) + ∑ k : Fin n, f (Fin.natAdd n k) := Fin.sum_univ_add f

/-- The four quarters' products, added one after another, are the whole row's. -/
theorem sum_quarters (o : Fin 4 → Fin 256 → EReal) (w : Fin 1024 → EReal) (x : EReal) :
    x + (∑ k, o 0 k * w ⟨0 + k.val, by omega⟩) + (∑ k, o 1 k * w ⟨256 + k.val, by omega⟩)
      + (∑ k, o 2 k * w ⟨512 + k.val, by omega⟩) + (∑ k, o 3 k * w ⟨768 + k.val, by omega⟩)
      = x + ∑ k, quarters o k * w k := by
  rw [sum_parts (n := 512) (fun k => quarters o k * w k), sum_parts (n := 256), sum_parts (n := 256)]
  simp only [← add_assoc]
  have h : ∀ (q : Fin 4) (e : Fin 256 → Fin 1024) (s : ℕ) (hs : s = 256 * q.val), (∀ k, (e k).val = s + k.val) →
      (∑ k, o q k * w ⟨s + k.val, by have := k.isLt; have := q.isLt; omega⟩) = ∑ k, quarters o (e k) * w (e k) := by
    intro q e s hs he
    refine Finset.sum_congr rfl fun k _ => ?_
    have hk := k.isLt
    have e1 : (⟨s + k.val, by have := q.isLt; omega⟩ : Fin 1024) = e k := Fin.ext (he k).symm
    rw [e1]
    refine congrArg (· * w (e k)) ?_
    unfold quarters
    exact congrArg₂ o (Fin.ext (by simp only [he]; omega)) (Fin.ext (by simp only [he]; omega))
  refine congrArg₂ (· + ·) (congrArg₂ (· + ·) (congrArg₂ (· + ·) (congrArg (x + ·) ?_) ?_) ?_) ?_
  · exact h 0 _ 0 rfl fun k => by simp
  · exact h 1 _ 256 rfl fun k => by simp; omega
  · exact h 2 _ 512 rfl fun k => by simp; omega
  · exact h 3 _ 768 rfl fun k => by simp only [Fin.natAdd]; omega

end Cert.Ffn

end
-- ==== Proof.FfnBlock.lean ====
/- What the output projection and feed-forward kernel computes on one block of 512 rows, read at an index. -/
module

public import proofs.«01_k».proof.Proof.Gen.Kernel3Ideal.Skeleton
public import proofs.«01_k».proof.Proof.FfnMath
public import Idealize.ShloMosaic.Lib.Pointwise

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.Ffn
open Cert.Experts (gated unit)

/-- One mixer's rows times its quarter of the projection. -/
def proj (o : FVec Ideal S512x256 .f32) (w : FVec Ideal S256x1024 .bf16) : FVec Ideal S512x1024 .f32 :=
  matmul dot_S512x256_S256x1024_S512x1024_1_0_0_1_n_n none (truncf .bf16 o bitsLt_bf16_f32 : FVec Ideal S512x256 .bf16) w
    (constant S512x1024 .f32 0x00000000#32)

theorem proj_at (o : FVec Ideal S512x256 .f32) (w : FVec Ideal S256x1024 .bf16) (r : Fin 512) (d : Fin 1024) :
    proj o w (ix2 r d) = ∑ k : Fin 256, o (ix2 r k) * w (ix2 k d) := by
  pointwise [proj]

/-- The prompt's block on the first 32 block rows, the samples' after them. -/
def pick (i : ℕ) {A : Type} (a b : A) : A := if i < 32 then a else b

theorem select_pick (i : ℕ) (hi : i < 34) {A : Type} (a b : A) :
    Scalar.select (Scalar.cmpi .slt (BitVec.ofNat 32 i) 32#32) a b = pick i a b := by
  have e : (BitVec.ofNat 32 i).toInt = i := by
    rw [BitVec.toInt_eq_toNat_cond, BitVec.toNat_ofNat]
    split <;> omega
  have key := IntOp.cmpi_slt (x := BitVec.ofNat 32 i) (y := 32#32)
  rw [e] at key
  unfold Scalar.select pick
  refine if_congr (key.trans ?_) rfl rfl
  show (i : ℤ) < 32 ↔ _
  omega

/-- The residual of a block. -/
def mixed (i : ℕ) (xa xb : FVec Ideal S512x1024 .f32) (a0 b0 a1 b1 a2 b2 a3 b3 : FVec Ideal S512x256 .f32)
    (w0 w1 w2 w3 : FVec Ideal S256x1024 .bf16) : FVec Ideal S512x1024 .f32 :=
  k0_pay1 (F := Ideal) (k0_pay7 (F := Ideal) (BitVec.ofNat 32 i) xa xb a0 b0 w0 a1 b1 w1 a2 b2 w2)
    (Scalar.cmpi .slt (BitVec.ofNat 32 i) 32#32) a3 b3 w3

theorem mixed_at (i : ℕ) (hi : i < 34) (xa xb : FVec Ideal S512x1024 .f32) (a0 b0 a1 b1 a2 b2 a3 b3 : FVec Ideal S512x256 .f32)
    (w0 w1 w2 w3 : FVec Ideal S256x1024 .bf16) (W : FVec Ideal S1024x1024 .bf16)
    (h0 : ∀ (k : Fin 256) (d : Fin 1024), w0 (ix2 k d) = W (ix2 ⟨0 + k.val, by omega⟩ d))
    (h1 : ∀ (k : Fin 256) (d : Fin 1024), w1 (ix2 k d) = W (ix2 ⟨256 + k.val, by omega⟩ d))
    (h2 : ∀ (k : Fin 256) (d : Fin 1024), w2 (ix2 k d) = W (ix2 ⟨512 + k.val, by omega⟩ d))
    (h3 : ∀ (k : Fin 256) (d : Fin 1024), w3 (ix2 k d) = W (ix2 ⟨768 + k.val, by omega⟩ d)) (r : Fin 512) (d : Fin 1024) :
    mixed i xa xb a0 b0 a1 b1 a2 b2 a3 b3 w0 w1 w2 w3 (ix2 r d)
      = residual (fun k => pick i xa xb (ix2 r k))
          (quarters fun q l => ![pick i a0 b0, pick i a1 b1, pick i a2 b2, pick i a3 b3] q (ix2 r l))
          (fun k d => W (ix2 k d)) d := by
  have e : mixed i xa xb a0 b0 a1 b1 a2 b2 a3 b3 w0 w1 w2 w3
      = addf (addf (addf (addf (pick i xa xb) (proj (pick i a0 b0) w0)) (proj (pick i a1 b1) w1)) (proj (pick i a2 b2) w2))
          (proj (pick i a3 b3) w3) := by
    simp only [← select_pick i hi]
    rfl
  rw [e]
  show pick i xa xb (ix2 r d) + proj _ w0 (ix2 r d) + proj _ w1 (ix2 r d) + proj _ w2 (ix2 r d) + proj _ w3 (ix2 r d) = _
  simp only [proj_at, h0, h1, h2, h3]
  exact sum_quarters (fun q l => ![pick i a0 b0, pick i a1 b1, pick i a2 b2, pick i a3 b3] q (ix2 r l)) (fun k => W (ix2 k d)) _

/-- The row norm of a block. -/
def norm (x : FVec Ideal S512x1024 .f32) (g : FVec Ideal S1x1024 .f32) : FVec Ideal S512x1024 .bf16 :=
  truncf .bf16 (mulf (mulf x (broadcastTo S512x1024 (rsqrt (addf (divf (shapeCast S512x1 (multiReduction .add [1] S512 (mulf x x)
    0x00000000#32 reduces_S512x1024_S512 (.inl rfl) rfl : FVec Ideal S512 .f32) shapeCasts_S512_S512x1 : FVec Ideal S512x1 .f32)
    (broadcast S512x1 (Scalar.ofBits (F := Ideal) .f32 0x44800000#32))) (broadcast S512x1 (Scalar.ofBits (F := Ideal) .f32 0x358637BD#32))))
    broadcasts_S512x1_S512x1024)) (broadcastTo S512x1024 g broadcasts_S1x1024_S512x1024)) bitsLt_bf16_f32

theorem norm_at (x : FVec Ideal S512x1024 .f32) (g : FVec Ideal S1x1024 .f32) (r : Fin 512) (k : Fin 1024) :
    norm x g (ix2 r k) = normed (fun j => x (ix2 r j)) (fun j => g (ix2 0 j)) k := by
  pointwise [norm]
  rfl

theorem pay2_eq (a : FVec Ideal S512x1024 .f32) (b : BitVec 1) (o p : FVec Ideal S512x256 .f32) (w : FVec Ideal S256x1024 .bf16) :
    k0_pay2 (F := Ideal) a b o p w = k0_pay1 (F := Ideal) a b o p w := by
  unfold k0_pay2
  rw [shapeCast_self]

theorem pay3_eq (a : FVec Ideal S512x1024 .f32) (b : BitVec 1) (o p : FVec Ideal S512x256 .f32) (w : FVec Ideal S256x1024 .bf16)
    (g : FVec Ideal S1x1024 .f32) : k0_pay3 (F := Ideal) a b o p w g = norm (k0_pay1 (F := Ideal) a b o p w) g := by
  unfold k0_pay3
  simp only [shapeCast_self]
  rfl

/-- The rows times a half of the hidden columns. -/
def up (x : FVec Ideal S512x1024 .bf16) (w : FVec Ideal S1024x1408 .bf16) : FVec Ideal S512x1408 .f32 :=
  matmul dot_S512x1024_S1024x1408_S512x1408_1_0_0_1_n_n none x w (constant S512x1408 .f32 0x00000000#32)

/-- The gated product of two such arrays. -/
def gate (a b : FVec Ideal S512x1408 .f32) : FVec Ideal S512x1408 .bf16 :=
  truncf .bf16 (mulf (mulf a (divf (broadcast S512x1408 (Scalar.ofBits (F := Ideal) .f32 0x3F800000#32))
    (addf (broadcast S512x1408 (Scalar.ofBits (F := Ideal) .f32 0x3F800000#32)) (exp (subf (broadcast S512x1408 (Scalar.ofBits (F := Ideal) .f32 0x00000000#32)) a))))) b) bitsLt_bf16_f32

/-- The hidden lanes times a half of the rows. -/
def down (h : FVec Ideal S512x1408 .bf16) (w : FVec Ideal S1408x1024 .bf16) : FVec Ideal S512x1024 .f32 :=
  matmul dot_S512x1408_S1408x1024_S512x1024_1_0_0_1_n_n none h w (constant S512x1024 .f32 0x00000000#32)

theorem up_at (x : FVec Ideal S512x1024 .bf16) (w : FVec Ideal S1024x1408 .bf16) (r : Fin 512) (u : Fin 1408) :
    up x w (ix2 r u) = ∑ k : Fin 1024, x (ix2 r k) * w (ix2 k u) := by
  pointwise [up]

theorem gate_at (a b : FVec Ideal S512x1408 .f32) (r : Fin 512) (u : Fin 1408) :
    gate a b (ix2 r u) = gated (a (ix2 r u)) (b (ix2 r u)) := by
  pointwise [gate]
  rw [zero_sub]
  rfl

theorem down_at (h : FVec Ideal S512x1408 .bf16) (w : FVec Ideal S1408x1024 .bf16) (r : Fin 512) (d : Fin 1024) :
    down h w (ix2 r d) = ∑ u : Fin 1408, h (ix2 r u) * w (ix2 u d) := by
  pointwise [down]

/-- A half of the feed-forward layer at an index. -/
theorem pay4_at (x : FVec Ideal S512x1024 .bf16) (w1 w3 : FVec Ideal S1024x1408 .bf16) (w2 : FVec Ideal S1408x1024 .bf16)
    (r : Fin 512) (d : Fin 1024) :
    k0_pay4 (F := Ideal) x w1 w3 w2 (ix2 r d)
      = ∑ u : Fin 1408, unit (fun k => x (ix2 r k)) (fun k => w1 (ix2 k u)) (fun k => w3 (ix2 k u)) * w2 (ix2 u d) := by
  refine Eq.trans (b := down (gate (up x w1) (up x w3)) w2 (ix2 r d)) rfl ?_
  rw [down_at]
  refine Finset.sum_congr rfl fun u _ => ?_
  rw [gate_at, up_at, up_at]
  rfl

/-- The first half is added to the residual. -/
theorem pay5_at (x : FVec Ideal S512x1024 .bf16) (w1 w3 : FVec Ideal S1024x1408 .bf16) (w2 : FVec Ideal S1408x1024 .bf16)
    (y : FVec Ideal S512x1024 .f32) (i : S512x1024.Idx) :
    k0_pay5 (F := Ideal) x w1 w3 w2 y i = y i + k0_pay4 (F := Ideal) x w1 w3 w2 i := rfl

/-- The second half is added to that. -/
theorem pay6_at (x : FVec Ideal S512x1024 .bf16) (w1 w3 : FVec Ideal S1024x1408 .bf16) (w2 : FVec Ideal S1408x1024 .bf16)
    (y : FVec Ideal S512x1024 .f32) (i : S512x1024.Idx) :
    k0_pay6 (F := Ideal) x w1 w3 w2 y i = y i + k0_pay4 (F := Ideal) x w1 w3 w2 i := by
  unfold k0_pay6
  rw [shapeCast_self]
  rfl

end Cert.Kernel3Ideal.Ffn

end
-- ==== Proof.FfnStep.lean ====
/- What each grid step of the output projection and feed-forward kernel leaves: an even step the residual with the first half of
   the feed-forward and the row norm, an odd step the block with both halves. -/
module

public import proofs.«01_k».proof.Proof.Gen.Kernel3Ideal.Frame
public import proofs.«01_k».proof.Proof.FfnBlock
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.Ffn

variable (m : (ℓ : Loc nD τ sig) → Buf (Elt Ideal) ℓ)

/-- A quarter of the projection's rows. -/
abbrev quarter (w : FVec Ideal S1024x1024 .bf16) (s : ℕ) (h : ∀ a, ![s, 0] a + ![256, 1024] a ≤ S1024x1024.size a) : FVec Ideal S256x1024 .bf16 :=
  View.ld (Val := Elt Ideal) (S := S1024x1024) (e' := .bf16) w (Rect.unit ![s, 0] ![256, 1024] h)

theorem quarter_at (w : FVec Ideal S1024x1024 .bf16) (s : ℕ) (h : ∀ a, ![s, 0] a + ![256, 1024] a ≤ S1024x1024.size a)
    (hs : s + 256 ≤ 1024) (k : Fin 256) (d : Fin 1024) : quarter w s h (ix2 k d) = w (ix2 ⟨s + k.val, by omega⟩ d) := by
  refine congrArg w (funext fun a => Fin.ext ?_)
  fin_cases a
  · exact congrArg (s + ·) (Nat.one_mul k.val)
  · exact (Nat.zero_add _).trans (Nat.one_mul d.val)

/-- A step's residual. -/
def blockMixed (c : Dev nD) (t : Fin cfg0.N) : FVec Ideal S512x1024 .f32 :=
  mixed (grid0.coords t 0).val (iblk m c 0 t) (iblk m c 1 t) (iblk m c 2 t) (iblk m c 3 t) (iblk m c 4 t) (iblk m c 5 t)
    (iblk m c 6 t) (iblk m c 7 t) (iblk m c 8 t) (iblk m c 9 t)
    (quarter (iblk m c 10 t) 0 inb_S1024x1024_S256x1024_0_0) (quarter (iblk m c 10 t) 256 inb_S1024x1024_S256x1024_256_0)
    (quarter (iblk m c 10 t) 512 inb_S1024x1024_S256x1024_512_0) (quarter (iblk m c 10 t) 768 inb_S1024x1024_S256x1024_768_0)

/-- A step's row norm. -/
def blockNorm (c : Dev nD) (t : Fin cfg0.N) : FVec Ideal S512x1024 .bf16 := norm (blockMixed m c t) (iblk m c 11 t)

/-- An even step leaves the residual with the first half of the feed-forward. -/
theorem even_at (c : Dev nD) (t : Fin cfg0.N) (h0 : t.val % 2 = 0) (y : S512x1024.Idx) :
    (outsAt0 m c t.val t.isLt).1 y
      = blockMixed m c t y + k0_pay4 (F := Ideal) (blockNorm m c t) (iblk m c 12 t) (iblk m c 13 t) (iblk m c 14 t) y := by
  refine (congrFun (congrArg (fun z => z.1) (outsAt0_A m c t h0 h0 (by omega))) y).trans ?_
  dsimp only
  unfold out0_A_15
  frame_open
  frame_out
  rw [pay2_eq, pay3_eq]
  exact pay5_at _ _ _ _ _ _

/-- An even step leaves the row norm in the scratch rows. -/
theorem even_norm (c : Dev nD) (t : Fin cfg0.N) (h0 : t.val % 2 = 0) :
    (outsAt0 m c t.val t.isLt).2 = blockNorm m c t := by
  refine (congrArg (fun z => z.2) (outsAt0_A m c t h0 h0 (by omega))).trans ?_
  dsimp only
  funext y
  unfold sout0_A_1
  frame_open
  frame_out
  rw [pay3_eq]
  rfl

/-- An odd step adds the second half. -/
theorem odd_at (c : Dev nD) (t p : Fin cfg0.N) (h1 : t.val % 2 = 1) (hp : p.val + 1 = t.val) (y : S512x1024.Idx) :
    (outsAt0 m c t.val t.isLt).1 y
      = blockMixed m c p y + k0_pay4 (F := Ideal) (blockNorm m c p) (iblk m c 12 p) (iblk m c 13 p) (iblk m c 14 p) y
        + k0_pay4 (F := Ideal) (blockNorm m c p) (iblk m c 12 t) (iblk m c 13 t) (iblk m c 14 t) y := by
  have ep : t.val - 1 = p.val := by omega
  refine (congrFun (congrArg (fun z => z.1) (outsAt0_B m c t (by omega) (by omega) h1)) y).trans ?_
  dsimp only
  unfold out0_B_15
  frame_open
  frame_out
  refine (pay6_at _ _ _ _ _ _).trans (congrArg₂ (fun a b : EReal => a + b) ?_ ?_)
  · simp only [ep]
    exact even_at m c p (by omega) y
  · refine congrFun (congrArg (fun x => k0_pay4 (F := Ideal) x _ _ _) ?_) y
    refine (read_unread_whole cc0_scratch1 _ _).trans ?_
    simp only [ep]
    exact even_norm m c p (by omega)

end Cert.Kernel3Ideal.Ffn

end
-- ==== Proof.FfnArray.lean ====
/- The array that the output projection and feed-forward kernel writes, at an index: its steps come in pairs, and the pairs'
   blocks tile the array. -/
module

public import proofs.«01_k».proof.Proof.Gen.Kernel3Ideal.Frame
public import proofs.«01_k».proof.Proof.FfnStep

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.Ffn
open Cert.Experts (unit)
variable (m : (ℓ : Loc nD τ sig) → Buf (Elt Ideal) ℓ)

/-- Where each window's block lies at each grid step. -/
theorem idx : ∀ t : Fin cfg0.N, (grid0.coords t 0).val = t.val / 2
    ∧ win0_0.index t = ![min (t.val / 2) 31, 0] ∧ win0_1.index t = ![t.val / 2 - 32, 0]
    ∧ win0_2.index t = ![min (t.val / 2) 31, 0] ∧ win0_3.index t = ![t.val / 2 - 32, 0]
    ∧ win0_4.index t = ![min (t.val / 2) 31, 0] ∧ win0_5.index t = ![t.val / 2 - 32, 0]
    ∧ win0_6.index t = ![min (t.val / 2) 31, 0] ∧ win0_7.index t = ![t.val / 2 - 32, 0]
    ∧ win0_8.index t = ![min (t.val / 2) 31, 0] ∧ win0_9.index t = ![t.val / 2 - 32, 0]
    ∧ win0_10.index t = ![0, 0] ∧ win0_11.index t = ![0, 0]
    ∧ win0_12.index t = ![0, t.val % 2] ∧ win0_13.index t = ![0, t.val % 2] ∧ win0_14.index t = ![t.val % 2, 0]
    ∧ win0_15.index t = ![t.val / 2, 0] := (by decide +kernel : ∀ t : Fin grid0.N, _)

/-- A block of either the prompt's rows or the samples' is the block of the rows of both. -/
theorem pick_source {S : Shape} {n : ℕ} (A : Fin 16384 → Fin n → EReal) (B : Fin 1024 → Fin n → EReal) (a b : FVec Ideal S .f32)
    (j : ℕ) (r : Fin 512) (k : Fin n) (z : S.Idx) (i : Fin 17408) (h : i.val = 512 * j + r.val)
    (ha : j < 32 → ∀ i' : Fin 16384, i'.val = 512 * j + r.val → a z = A i' k)
    (hb : ¬ j < 32 → ∀ i' : Fin 1024, i'.val = 512 * (j - 32) + r.val → b z = B i' k) :
    pick j a b z = source A B i k := by
  have hr := r.isLt
  unfold pick source
  by_cases hj : j < 32
  · rw [if_pos hj, dif_pos (by omega)]
    exact ha hj _ h
  · rw [if_neg hj, dif_neg (by omega)]
    exact hb hj _ (by simp only; omega)

theorem x_at (c : Dev nD) (t : Fin cfg0.N) (r : Fin 512) (l : Fin 1024) (i : Fin 17408) (h : i.val = 512 * (t.val / 2) + r.val) :
    pick (t.val / 2) (iblk m c 0 t : FVec Ideal S512x1024 .f32) (iblk m c 1 t) (ix2 r l)
      = source (fun i l => m ((c : Thread nD τ).loc main_arg0) (ix2 i l)) (fun i l => m ((c : Thread nD τ).loc main_arg1) (ix2 i l)) i l := by
  refine pick_source _ _ _ _ _ r l _ i h (fun hj i' hi => ?_) (fun hj i' hi => ?_)
  · blk_ext [iblk, V, idx t]
  · blk_ext [iblk, V, idx t]

theorem oa_at (c : Dev nD) (t : Fin cfg0.N) (r : Fin 512) (l : Fin 256) (i : Fin 17408) (h : i.val = 512 * (t.val / 2) + r.val) :
    pick (t.val / 2) (iblk m c 2 t : FVec Ideal S512x256 .f32) (iblk m c 3 t) (ix2 r l)
      = source (fun i l => m ((c : Thread nD τ).loc main_arg2) (ix2 i l)) (fun i l => m ((c : Thread nD τ).loc main_arg3) (ix2 i l)) i l := by
  refine pick_source _ _ _ _ _ r l _ i h (fun hj i' hi => ?_) (fun hj i' hi => ?_)
  · blk_ext [iblk, V, idx t]
  · blk_ext [iblk, V, idx t]

theorem ob_at (c : Dev nD) (t : Fin cfg0.N) (r : Fin 512) (l : Fin 256) (i : Fin 17408) (h : i.val = 512 * (t.val / 2) + r.val) :
    pick (t.val / 2) (iblk m c 4 t : FVec Ideal S512x256 .f32) (iblk m c 5 t) (ix2 r l)
      = source (fun i l => m ((c : Thread nD τ).loc main_arg4) (ix2 i l)) (fun i l => m ((c : Thread nD τ).loc main_arg5) (ix2 i l)) i l := by
  refine pick_source _ _ _ _ _ r l _ i h (fun hj i' hi => ?_) (fun hj i' hi => ?_)
  · blk_ext [iblk, V, idx t]
  · blk_ext [iblk, V, idx t]

theorem oc_at (c : Dev nD) (t : Fin cfg0.N) (r : Fin 512) (l : Fin 256) (i : Fin 17408) (h : i.val = 512 * (t.val / 2) + r.val) :
    pick (t.val / 2) (iblk m c 6 t : FVec Ideal S512x256 .f32) (iblk m c 7 t) (ix2 r l)
      = source (fun i l => m ((c : Thread nD τ).loc main_arg6) (ix2 i l)) (fun i l => m ((c : Thread nD τ).loc main_arg7) (ix2 i l)) i l := by
  refine pick_source _ _ _ _ _ r l _ i h (fun hj i' hi => ?_) (fun hj i' hi => ?_)
  · blk_ext [iblk, V, idx t]
  · blk_ext [iblk, V, idx t]

theorem od_at (c : Dev nD) (t : Fin cfg0.N) (r : Fin 512) (l : Fin 256) (i : Fin 17408) (h : i.val = 512 * (t.val / 2) + r.val) :
    pick (t.val / 2) (iblk m c 8 t : FVec Ideal S512x256 .f32) (iblk m c 9 t) (ix2 r l)
      = source (fun i l => m ((c : Thread nD τ).loc main_arg8) (ix2 i l)) (fun i l => m ((c : Thread nD τ).loc main_arg9) (ix2 i l)) i l := by
  refine pick_source _ _ _ _ _ r l _ i h (fun hj i' hi => ?_) (fun hj i' hi => ?_)
  · blk_ext [iblk, V, idx t]
  · blk_ext [iblk, V, idx t]

theorem w_at (c : Dev nD) (t : Fin cfg0.N) (k d : Fin 1024) :
    iblk m c 10 t (ix2 k d) = m ((c : Thread nD τ).loc main_arg10) (ix2 k d) := by
  blk_ext [iblk, V, idx t]

theorem g_at (c : Dev nD) (t : Fin cfg0.N) (k : Fin 1024) :
    iblk m c 11 t (ix2 0 k) = m ((c : Thread nD τ).loc main_arg11) (ix1 k) := by
  blk_simp [iblk, idx t]
  entry_read
  pointwise
  blk_ext [idx t]

theorem w1_at (c : Dev nD) (t : Fin cfg0.N) (k : Fin 1024) (u : Fin 1408) (v : Fin 2816) (h : v.val = 1408 * (t.val % 2) + u.val) :
    iblk m c 12 t (ix2 k u) = m ((c : Thread nD τ).loc main_arg12) (ix2 k v) := by
  blk_ext [iblk, V, idx t]

theorem w3_at (c : Dev nD) (t : Fin cfg0.N) (k : Fin 1024) (u : Fin 1408) (v : Fin 2816) (h : v.val = 1408 * (t.val % 2) + u.val) :
    iblk m c 13 t (ix2 k u) = m ((c : Thread nD τ).loc main_arg13) (ix2 k v) := by
  blk_ext [iblk, V, idx t]

theorem w2_at (c : Dev nD) (t : Fin cfg0.N) (u : Fin 1408) (d : Fin 1024) (v : Fin 2816) (h : v.val = 1408 * (t.val % 2) + u.val) :
    iblk m c 14 t (ix2 u d) = m ((c : Thread nD τ).loc main_arg14) (ix2 v d) := by
  blk_ext [iblk, V, idx t]

/-- Row `i` of the residual's input. -/
def rowX (c : Dev nD) (i : Fin 17408) : Fin 1024 → EReal :=
  source (fun i l => m ((c : Thread nD τ).loc main_arg0) (ix2 i l)) (fun i l => m ((c : Thread nD τ).loc main_arg1) (ix2 i l)) i

/-- Row `i` of the four mixers' outputs. -/
def rowO (c : Dev nD) (i : Fin 17408) : Fin 1024 → EReal :=
  quarters ![
    source (fun i l => m ((c : Thread nD τ).loc main_arg2) (ix2 i l)) (fun i l => m ((c : Thread nD τ).loc main_arg3) (ix2 i l)) i,
    source (fun i l => m ((c : Thread nD τ).loc main_arg4) (ix2 i l)) (fun i l => m ((c : Thread nD τ).loc main_arg5) (ix2 i l)) i,
    source (fun i l => m ((c : Thread nD τ).loc main_arg6) (ix2 i l)) (fun i l => m ((c : Thread nD τ).loc main_arg7) (ix2 i l)) i,
    source (fun i l => m ((c : Thread nD τ).loc main_arg8) (ix2 i l)) (fun i l => m ((c : Thread nD τ).loc main_arg9) (ix2 i l)) i]

/-- The projection's weights. -/
def weights (c : Dev nD) (k d : Fin 1024) : EReal := m ((c : Thread nD τ).loc main_arg10) (ix2 k d)

/-- Row `i` of the residual's norm. -/
def rowNorm (c : Dev nD) (i : Fin 17408) : Fin 1024 → EReal :=
  normed (residual (rowX m c i) (rowO m c i) (weights m c)) (fun k => m ((c : Thread nD τ).loc main_arg11) (ix1 k))

/-- A step's residual is its rows of the residual. -/
theorem blockMixed_at (c : Dev nD) (t : Fin cfg0.N) (r : Fin 512) (d : Fin 1024) (i : Fin 17408)
    (h : i.val = 512 * (t.val / 2) + r.val) :
    blockMixed m c t (ix2 r d) = residual (rowX m c i) (rowO m c i) (weights m c) d := by
  have ht : t.val < 68 := t.isLt
  unfold blockMixed
  refine (mixed_at _ (by rw [(idx t).1]; omega) _ _ _ _ _ _ _ _ _ _ _ _ _ _ (iblk m c 10 t)
    (fun k d => quarter_at _ _ _ (by omega) k d) (fun k d => quarter_at _ _ _ (by omega) k d)
    (fun k d => quarter_at _ _ _ (by omega) k d) (fun k d => quarter_at _ _ _ (by omega) k d) r d).trans ?_
  rw [(idx t).1]
  have e1 : (fun k => pick (t.val / 2) (iblk m c 0 t : FVec Ideal S512x1024 .f32) (iblk m c 1 t) (ix2 r k)) = rowX m c i :=
    funext fun k => x_at m c t r k i h
  have e3 : (fun k d => (iblk m c 10 t : FVec Ideal S1024x1024 .bf16) (ix2 k d)) = weights m c :=
    funext fun k => funext fun d => w_at m c t k d
  refine Eq.trans ?_ (congrArg₂ (fun x w => residual x (rowO m c i) w d) e1 e3)
  refine congrArg (fun o => residual _ o _ d) (congrArg quarters (funext fun q => funext fun l => ?_))
  fin_cases q
  · exact oa_at m c t r l i h
  · exact ob_at m c t r l i h
  · exact oc_at m c t r l i h
  · exact od_at m c t r l i h

/-- A step's row norm is its rows of the norm. -/
theorem blockNorm_at (c : Dev nD) (t : Fin cfg0.N) (r : Fin 512) (k : Fin 1024) (i : Fin 17408)
    (h : i.val = 512 * (t.val / 2) + r.val) : blockNorm m c t (ix2 r k) = rowNorm m c i k := by
  unfold blockNorm rowNorm
  refine (norm_at _ _ r k).trans (congrArg₂ (fun x g => normed x g k) (funext fun j => ?_) (funext fun j => ?_))
  · exact blockMixed_at m c t r j i h
  · exact g_at m c t j

/-- Hidden lane `v` of row `i`, times its weight into lane `d`. -/
def term (c : Dev nD) (i : Fin 17408) (d : Fin 1024) (v : Fin 2816) : EReal :=
  unit (rowNorm m c i) (fun k => m ((c : Thread nD τ).loc main_arg12) (ix2 k v))
    (fun k => m ((c : Thread nD τ).loc main_arg13) (ix2 k v)) * m ((c : Thread nD τ).loc main_arg14) (ix2 v d)

/-- A step's half of the feed-forward, from the norm of the pair's first step. -/
theorem half_at (c : Dev nD) (t p : Fin cfg0.N) (r : Fin 512) (d : Fin 1024) (i : Fin 17408)
    (h : i.val = 512 * (p.val / 2) + r.val) (v : Fin 1408 → Fin 2816) (hv : ∀ u, (v u).val = 1408 * (t.val % 2) + u.val) :
    k0_pay4 (F := Ideal) (blockNorm m c p) (iblk m c 12 t) (iblk m c 13 t) (iblk m c 14 t) (ix2 r d)
      = ∑ u : Fin 1408, term m c i d (v u) := by
  refine (pay4_at _ _ _ _ r d).trans (Finset.sum_congr rfl fun u _ => ?_)
  refine congrArg₂ (fun a b : EReal => a * b) ?_ (w2_at m c t u d (v u) (hv u))
  have e0 : (fun k => blockNorm m c p (ix2 r k)) = rowNorm m c i := funext fun k => blockNorm_at m c p r k i h
  rw [e0]
  exact congrArg₂ (fun a b => unit (rowNorm m c i) a b) (funext fun k => w1_at m c t k u (v u) (hv u))
    (funext fun k => w3_at m c t k u (v u) (hv u))

/-- The layer at row `i`, lane `d`. -/
def layerAt (c : Dev nD) (i : Fin 17408) (d : Fin 1024) : EReal :=
  rowOut (rowX m c i) (rowO m c i) (weights m c) (fun k => m ((c : Thread nD τ).loc main_arg11) (ix1 k))
    (fun k v => m ((c : Thread nD τ).loc main_arg12) (ix2 k v)) (fun k v => m ((c : Thread nD τ).loc main_arg13) (ix2 k v))
    (fun v d => m ((c : Thread nD τ).loc main_arg14) (ix2 v d)) d

/-- What the second step of a pair leaves is its rows of the layer. -/
theorem block_array (c : Dev nD) (t : Fin cfg0.N) (h1 : t.val % 2 = 1) (r : Fin 512) (d : Fin 1024) (i : Fin 17408)
    (h : i.val = 512 * (t.val / 2) + r.val) : (outsAt0 m c t.val t.isLt).1 (ix2 r d) = layerAt m c i d := by
  have ht := t.isLt
  let p : Fin cfg0.N := ⟨t.val - 1, by omega⟩
  have hp : p.val + 1 = t.val := by show t.val - 1 + 1 = t.val; omega
  have hi : i.val = 512 * (p.val / 2) + r.val := by omega
  refine (odd_at m c t p h1 hp (ix2 r d)).trans ?_
  rw [half_at m c p p r d i hi (fun u => ⟨u.val, by omega⟩) (fun u => by show u.val = _; omega),
    half_at m c t p r d i hi (fun u => ⟨1408 + u.val, by omega⟩) (fun u => by show 1408 + u.val = _; omega),
    blockMixed_at m c p r d i hi, add_assoc]
  exact congrArg _ (Fin.sum_univ_two_halves (M := EReal) 1408 1408 rfl (term m c i d)).symm

/-- The array after the run. -/
theorem final (c : Dev nD) : (dats m 0 c).arrAt 15 cfg0.N = fun i : S17408x1024.Idx => layerAt m c (i 0) (i 1) := by
  refine (dats m 0 c).arrAt_eq_of_covers 15 _ (by decide +kernel) fun t hf y => ?_
  have h1 := (flush0_15 t).1 hf
  have h15 := (idx t).2.2.2.2.2.2.2.2.2.2.2.2.2.2.2.2
  blk_simp
  rw [after0_15]
  have e0 : ((win0_15.blk t).view.emb y 0 : ℕ) = 512 * (t.val / 2) + (y 0 : ℕ) := by blk_simp [h15]; omega
  have e1 : ((win0_15.blk t).view.emb y 1 : ℕ) = (y 1 : ℕ) := by blk_simp [h15]
  generalize ((win0_15.blk t).view.emb y) = i at e0 e1 ⊢
  have e : i 1 = y 1 := Fin.ext e1
  refine (congrArg _ (eq_ix2 y)).trans ((block_array m c t h1 (y 0) (y 1) (i 0) e0).trans ?_)
  exact congrArg (layerAt m c (i 0)) e.symm

end Cert.Kernel3Ideal.Ffn

end
-- ==== Proof.FfnReference.lean ====
/- The plain output projection and feed-forward layer, read at an index. -/
module

public import proofs.«01_k».proof.Proof.Gen.Reference3Ideal.Run
public import proofs.«01_k».proof.Proof.FfnMath
public import Idealize.ShloMosaic.Lib.Pointwise
public import Idealize.ShloMosaic.Lib.IdealHost

@[expose] public section
set_option maxRecDepth 16384
noncomputable section
open Idealize.ShloMosaic Idealize.ShloMosaic.TcCoe Idealize.SL.Sem Idealize.ShloMosaic.StableHlo
namespace Cert.Reference3Ideal.Ffn
open Cert.Reference3Ideal Cert.Reference3Ideal.Gen Cert.Ffn
open Cert.Experts (gated unit)

/-- The prompt's rows, then the samples'. -/
def rows (a : FVec Ideal S16384x1024 .f32) (b : FVec Ideal S1024x1024 .f32) : FVec Ideal S17408x1024 .f32 :=
  concatenate S17408x1024 0 [⟨S16384x1024, a⟩, ⟨S1024x1024, b⟩] concatenates_S16384x1024_S1024x1024_S17408x1024_d0

/-- The prompt's four mixers side by side. -/
def prompt (a b c d : FVec Ideal S16384x256 .f32) : FVec Ideal S16384x1024 .f32 :=
  (concatenate S16384x1024 1 [⟨S16384x256, (a : (⟨S16384x256, .f32⟩ : BufTy).Contents (Elt Ideal))⟩, ⟨S16384x256, (b : (⟨S16384x256, .f32⟩ : BufTy).Contents (Elt Ideal))⟩, ⟨S16384x256, (c : (⟨S16384x256, .f32⟩ : BufTy).Contents (Elt Ideal))⟩, ⟨S16384x256, (d : (⟨S16384x256, .f32⟩ : BufTy).Contents (Elt Ideal))⟩] concatenates_S16384x256_S16384x256_S16384x256_S16384x256_S16384x1024_d1 : (⟨S16384x1024, .f32⟩ : BufTy).Contents (Elt Ideal))

/-- The samples' four mixers side by side. -/
def samples (a b c d : FVec Ideal S1024x256 .f32) : FVec Ideal S1024x1024 .f32 :=
  (concatenate S1024x1024 1 [⟨S1024x256, (a : (⟨S1024x256, .f32⟩ : BufTy).Contents (Elt Ideal))⟩, ⟨S1024x256, (b : (⟨S1024x256, .f32⟩ : BufTy).Contents (Elt Ideal))⟩, ⟨S1024x256, (c : (⟨S1024x256, .f32⟩ : BufTy).Contents (Elt Ideal))⟩, ⟨S1024x256, (d : (⟨S1024x256, .f32⟩ : BufTy).Contents (Elt Ideal))⟩] concatenates_S1024x256_S1024x256_S1024x256_S1024x256_S1024x1024_d1 : (⟨S1024x1024, .f32⟩ : BufTy).Contents (Elt Ideal))

/-- The rows with the projection of the mixers added. -/
def mixed (x o : FVec Ideal S17408x1024 .f32) (w : FVec Ideal S1024x1024 .bf16) : FVec Ideal S17408x1024 .f32 :=
  addf x (Host.dotGeneral dot_S17408x1024_S1024x1024_S17408x1024_1_0_0_1_n_n none (truncf .bf16 o bitsLt_bf16_f32) w)

/-- The rows' norm. -/
def norm (x : FVec Ideal S17408x1024 .f32) (g : FVec Ideal S1024 .f32) : FVec Ideal S17408x1024 .bf16 :=
  truncf .bf16 (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) bitsLt_bf16_f32

/-- The rows' products with the hidden columns. -/
def up (x : FVec Ideal S17408x1024 .bf16) (w : FVec Ideal S1024x2816 .bf16) : FVec Ideal S17408x2816 .f32 :=
  Host.dotGeneral dot_S17408x1024_S1024x2816_S17408x2816_1_0_0_1_n_n none x w

/-- The gated hidden lanes. -/
def lanes (a b : FVec Ideal S17408x2816 .f32) : FVec Ideal S17408x2816 .bf16 :=
  truncf .bf16 (mulf (mulf a (Host.divf (broadcastInDim S17408x2816 ![] bcast_S_S17408x2816 (constant S_ .f32 0x3F800000#32)) (addf (broadcastInDim S17408x2816 ![] bcast_S_S17408x2816 (constant S_ .f32 0x3F800000#32)) (Host.exp (Host.negf a))))) b) bitsLt_bf16_f32

/-- The rows with the feed-forward layer of their norm added. -/
def out (x : FVec Ideal S17408x1024 .f32) (g : FVec Ideal S1024 .f32) (w1 w3 : FVec Ideal S1024x2816 .bf16)
    (w2 : FVec Ideal S2816x1024 .bf16) : FVec Ideal S17408x1024 .f32 :=
  addf x (Host.dotGeneral dot_S17408x2816_S2816x1024_S17408x1024_1_0_0_1_n_n none (lanes (up (norm x g) w1) (up (norm x g) w3)) w2)

/-- The two row sources at an index. -/
theorem rows_at (a : FVec Ideal S16384x1024 .f32) (b : FVec Ideal S1024x1024 .f32) (i : Fin 17408) (k : Fin 1024) :
    rows a b (ix2 i k) = source (fun i k => a (ix2 i k)) (fun i k => b (ix2 i k)) i k := by
  pointwise [rows]
  rfl

theorem prompt_at (a b c d : FVec Ideal S16384x256 .f32) (i : Fin 16384) (k : Fin 1024) :
    prompt a b c d (ix2 i k) = quarters (fun q l => ![a, b, c, d] q (ix2 i l)) k := by
  refine Eq.trans ?_ (quarters_eq a b c d (fun x l => x (ix2 i l)) k)
  pointwise [prompt]

theorem samples_at (a b c d : FVec Ideal S1024x256 .f32) (i : Fin 1024) (k : Fin 1024) :
    samples a b c d (ix2 i k) = quarters (fun q l => ![a, b, c, d] q (ix2 i l)) k := by
  refine Eq.trans ?_ (quarters_eq a b c d (fun x l => x (ix2 i l)) k)
  pointwise [samples]

theorem mixed_at (x o : FVec Ideal S17408x1024 .f32) (w : FVec Ideal S1024x1024 .bf16) (i : Fin 17408) (d : Fin 1024) :
    mixed x o w (ix2 i d) = residual (fun k => x (ix2 i k)) (fun k => o (ix2 i k)) (fun k d => w (ix2 k d)) d := by
  pointwise [mixed]
  rfl

theorem norm_at (x : FVec Ideal S17408x1024 .f32) (g : FVec Ideal S1024 .f32) (i : Fin 17408) (k : Fin 1024) :
    norm x g (ix2 i k) = normed (fun j => x (ix2 i j)) (fun j => g (ix1 j)) k := by
  pointwise [norm]
  rfl

theorem up_at (x : FVec Ideal S17408x1024 .bf16) (w : FVec Ideal S1024x2816 .bf16) (i : Fin 17408) (u : Fin 2816) :
    up x w (ix2 i u) = ∑ k : Fin 1024, x (ix2 i k) * w (ix2 k u) := by
  pointwise [up]

theorem lanes_at (a b : FVec Ideal S17408x2816 .f32) (j : S17408x2816.Idx) : lanes a b j = gated (a j) (b j) := by
  pointwise [lanes]
  rfl

theorem out_at (x : FVec Ideal S17408x1024 .f32) (g : FVec Ideal S1024 .f32) (w1 w3 : FVec Ideal S1024x2816 .bf16)
    (w2 : FVec Ideal S2816x1024 .bf16) (i : Fin 17408) (d : Fin 1024) :
    out x g w1 w3 w2 (ix2 i d) = x (ix2 i d) + feed (normed (fun j => x (ix2 i j)) (fun j => g (ix1 j)))
      (fun k u => w1 (ix2 k u)) (fun k u => w3 (ix2 k u)) (fun u d => w2 (ix2 u d)) d := by
  unfold out
  generalize hh : lanes (up (norm x g) w1) (up (norm x g) w3) = h
  pointwise
  refine congrArg (x (ix2 i d) + ·) (Finset.sum_congr rfl fun u _ => ?_)
  subst hh
  rw [lanes_at, up_at, up_at]
  simp only [norm_at]
  rfl

variable (m : (ℓ : Loc nD τ sig) → Buf (Elt Ideal) ℓ)

/-- The reference's result on its arguments. -/
theorem res_eq (c : Dev nD) : Value.res_out0 (F := Ideal) m c
    = out (mixed (rows (m ((c.tc : Thread nD τ).loc main_arg0)) (m ((c.tc : Thread nD τ).loc main_arg1)))
          (rows (prompt (m ((c.tc : Thread nD τ).loc main_arg2)) (m ((c.tc : Thread nD τ).loc main_arg4))
              (m ((c.tc : Thread nD τ).loc main_arg6)) (m ((c.tc : Thread nD τ).loc main_arg8)))
            (samples (m ((c.tc : Thread nD τ).loc main_arg3)) (m ((c.tc : Thread nD τ).loc main_arg5))
              (m ((c.tc : Thread nD τ).loc main_arg7)) (m ((c.tc : Thread nD τ).loc main_arg9))))
          (m ((c.tc : Thread nD τ).loc main_arg10)))
        (m ((c.tc : Thread nD τ).loc main_arg11)) (m ((c.tc : Thread nD τ).loc main_arg12))
        (m ((c.tc : Thread nD τ).loc main_arg13)) (m ((c.tc : Thread nD τ).loc main_arg14)) := rfl

end Cert.Reference3Ideal.Ffn

end
-- ==== Proof.FfnEquation.lean ====
/- The output projection and feed-forward kernel's array against the reference's result. -/
module

public import proofs.«01_k».proof.Proof.FfnArray
public import proofs.«01_k».proof.Proof.FfnReference

@[expose] public section
set_option maxRecDepth 16384
noncomputable section
open Idealize.ShloMosaic Idealize.ShloMosaic.TcCoe Idealize.SL.Sem
namespace Cert.FfnEquation
open Cert.Kernel3Ideal Cert.Ffn

open Cert.Reference3Ideal.Ffn in
/-- The reference at an index is the layer's row. -/
theorem reference_at (xp : FVec Ideal S16384x1024 .f32) (xs : FVec Ideal S1024x1024 .f32) (ap bp cp dp : FVec Ideal S16384x256 .f32)
    (aq bq cq dq : FVec Ideal S1024x256 .f32) (w : FVec Ideal S1024x1024 .bf16) (g : FVec Ideal S1024 .f32)
    (w1 w3 : FVec Ideal S1024x2816 .bf16) (w2 : FVec Ideal S2816x1024 .bf16) (i : Fin 17408) (d : Fin 1024) :
    out (mixed (rows xp xs) (rows (prompt ap bp cp dp) (samples aq bq cq dq)) w) g w1 w3 w2 (ix2 i d)
      = rowOut (source (fun i l => xp (ix2 i l)) (fun i l => xs (ix2 i l)) i)
        (quarters ![source (fun i l => ap (ix2 i l)) (fun i l => aq (ix2 i l)) i, source (fun i l => bp (ix2 i l)) (fun i l => bq (ix2 i l)) i,
          source (fun i l => cp (ix2 i l)) (fun i l => cq (ix2 i l)) i, source (fun i l => dp (ix2 i l)) (fun i l => dq (ix2 i l)) i])
        (fun k d => w (ix2 k d)) (fun k => g (ix1 k)) (fun k v => w1 (ix2 k v)) (fun k v => w3 (ix2 k v)) (fun v d => w2 (ix2 v d)) d := by
  rw [out_at]
  have eo : (fun k => rows (prompt ap bp cp dp) (samples aq bq cq dq) (ix2 i k))
      = quarters ![source (fun i l => ap (ix2 i l)) (fun i l => aq (ix2 i l)) i, source (fun i l => bp (ix2 i l)) (fun i l => bq (ix2 i l)) i,
          source (fun i l => cp (ix2 i l)) (fun i l => cq (ix2 i l)) i, source (fun i l => dp (ix2 i l)) (fun i l => dq (ix2 i l)) i] := by
    funext k
    rw [rows_at]
    simp only [prompt_at, samples_at]
    have key : ∀ (q : Fin 4) (l : Fin 256),
        (if h : i.val < 16384 then ![ap, bp, cp, dp] q (ix2 ⟨i.val, h⟩ l) else ![aq, bq, cq, dq] q (ix2 ⟨i.val - 16384, by omega⟩ l))
          = ![source (fun i l => ap (ix2 i l)) (fun i l => aq (ix2 i l)) i, source (fun i l => bp (ix2 i l)) (fun i l => bq (ix2 i l)) i,
            source (fun i l => cp (ix2 i l)) (fun i l => cq (ix2 i l)) i, source (fun i l => dp (ix2 i l)) (fun i l => dq (ix2 i l)) i] q l := by
      intro q l
      fin_cases q <;> rfl
    exact key ⟨k.val / 256, by omega⟩ ⟨k.val % 256, by omega⟩
  have ex : (fun k => rows xp xs (ix2 i k)) = source (fun i l => xp (ix2 i l)) (fun i l => xs (ix2 i l)) i :=
    funext fun k => rows_at xp xs i k
  simp only [mixed_at]
  rw [eo, ex]
  rfl

variable (m : (ℓ : Loc nD τ sig) → Buf (Elt Ideal) ℓ)

open Cert.Reference3Ideal.Ffn in
/-- The reference's result on the kernel's arguments is the kernel's array. -/
theorem equation (c : Dev nD) :
    out (mixed (rows (m ((c.tc : Thread nD τ).loc main_arg0)) (m ((c.tc : Thread nD τ).loc main_arg1)))
          (rows (prompt (m ((c.tc : Thread nD τ).loc main_arg2)) (m ((c.tc : Thread nD τ).loc main_arg4))
              (m ((c.tc : Thread nD τ).loc main_arg6)) (m ((c.tc : Thread nD τ).loc main_arg8)))
            (samples (m ((c.tc : Thread nD τ).loc main_arg3)) (m ((c.tc : Thread nD τ).loc main_arg5))
              (m ((c.tc : Thread nD τ).loc main_arg7)) (m ((c.tc : Thread nD τ).loc main_arg9))))
          (m ((c.tc : Thread nD τ).loc main_arg10)))
        (m ((c.tc : Thread nD τ).loc main_arg11)) (m ((c.tc : Thread nD τ).loc main_arg12))
        (m ((c.tc : Thread nD τ).loc main_arg13)) (m ((c.tc : Thread nD τ).loc main_arg14))
      = (Cert.Kernel3Ideal.Gen.dats m 0 c).arrAt 15 Cert.Kernel3Ideal.cfg0.N := by
  refine Eq.trans ?_ (Cert.Kernel3Ideal.Ffn.final m c).symm
  funext i
  exact (congrArg _ (eq_ix2 i)).trans (reference_at _ _ _ _ _ _ _ _ _ _ _ _ _ _ _ (i 0) (i 1))

end Cert.FfnEquation

end
-- ==== Proof.InMath.lean ====
/- The plain sums of an input projection and of the norm of its heads over the extended reals, which both the kernel and the
   reference come to. -/
module

public import proofs.«01_k».proof.Proof.FfnMath
public import proofs.«01_k».proof.Proof.AttnEquation

@[expose] public section
noncomputable section
open Idealize.ShloMosaic
namespace Cert.Inproj

/-- A row's product with lane `l` of the weights' columns from `s` on. -/
def part {n : ℕ} (x : Fin 1024 → EReal) (w : Fin 1024 → Fin 3328 → EReal) (s : ℕ) (h : s + n ≤ 3328) (l : Fin n) : EReal :=
  ∑ k, x k * w k ⟨s + l.val, by omega⟩

/-- Lane `d` of the head of 64 lanes that lane `l` is in. -/
def lane {n : ℕ} (hn : n % 64 = 0) (l : Fin n) (d : Fin 64) : Fin n := ⟨l.val / 64 * 64 + d.val, by omega⟩

/-- Lane `l` divided by the root of its head's mean square, times the head's gain. -/
def headed {n : ℕ} (hn : n % 64 = 0) (p : Fin n → EReal) (g : Fin 64 → EReal) (l : Fin n) : EReal :=
  p l * Ideal.rsqrt (Ideal.div (∑ d, p (lane hn l d) * p (lane hn l d)) (Ideal.ofBits .f32 0x42800000#32)
    + Ideal.ofBits .f32 0x358637BD#32) * g ⟨l.val % 64, by omega⟩

/-- Sixty-four, as its bits read. -/
theorem ofBits_64 : Ideal.ofBits .f32 0x42800000#32 = ((64 : ℝ) : EReal) := by
  have e1 : BitVec.extractLsb' 23 8 (0x42800000#32 : BitVec 32) = 133#8 := by decide
  have e2 : BitVec.extractLsb' 31 1 (0x42800000#32 : BitVec 32) = 0#1 := by decide
  have e3 : BitVec.extractLsb' 0 23 (0x42800000#32 : BitVec 32) = 0#23 := by decide
  norm_num [Ideal.ofBits, Ideal.ieee, e1, e2, e3]

/-- A sixty-fourth, as its bits read. -/
theorem ofBits_64th : Ideal.ofBits .f32 0x3C800000#32 = ((1 / 64 : ℝ) : EReal) := by
  have e1 : BitVec.extractLsb' 23 8 (0x3C800000#32 : BitVec 32) = 121#8 := by decide
  have e2 : BitVec.extractLsb' 31 1 (0x3C800000#32 : BitVec 32) = 0#1 := by decide
  have e3 : BitVec.extractLsb' 0 23 (0x3C800000#32 : BitVec 32) = 0#23 := by decide
  norm_num [Ideal.ofBits, Ideal.ieee, e1, e2, e3]

/-- The sum over the lanes of one head, taken over all lanes with the others set to nought. -/
theorem sum_lanes {n : ℕ} (hn : n % 64 = 0) (f : Fin n → EReal) (l : Fin n) :
    (∑ k : Fin n, if k.val / 64 = l.val / 64 then f k else 0) = ∑ d, f (lane hn l d) := by
  rw [← Finset.sum_filter]
  refine (Finset.sum_bij (fun d _ => lane hn l d) (fun d _ => ?_) (fun a _ b _ h => ?_) (fun k hk => ?_) (fun _ _ => rfl)).symm
  · refine Finset.mem_filter.2 ⟨Finset.mem_univ _, ?_⟩
    unfold lane
    simp only
    omega
  · have := congrArg Fin.val h
    unfold lane at this
    simp only at this
    exact Fin.ext (by omega)
  · have := (Finset.mem_filter.1 hk).2
    refine ⟨⟨k.val % 64, by omega⟩, Finset.mem_univ _, Fin.ext ?_⟩
    unfold lane
    simp only
    omega

/-- A head's mean, taken as a product with a sixty-fourth on the head's lanes and nought elsewhere. -/
theorem mean_lanes {n : ℕ} (hn : n % 64 = 0) (f : Fin n → EReal) (l : Fin n) :
    (∑ k : Fin n, f k * (if k.val / 64 = l.val / 64 then Ideal.ofBits .f32 0x3C800000#32 else 0))
      = Ideal.div (∑ d, f (lane hn l d)) (Ideal.ofBits .f32 0x42800000#32) := by
  have h0 : ((64 : ℝ) : EReal) ≠ 0 := by
    rw [Ne, EReal.coe_eq_zero]
    norm_num
  simp only [mul_ite, mul_zero]
  rw [sum_lanes hn, ofBits_64, ofBits_64th, ← Cert.AttnEquation.sum_mul_real _ _ _ (by norm_num)]
  unfold Ideal.div
  rw [if_neg h0, ← EReal.coe_inv]
  norm_num

end Cert.Inproj

end
-- ==== Proof.InBlock.lean ====
/- One block of the input projection at an index: the row norm, the products with columns of the weights, and the heads' norms
   with their means taken as a product with a block matrix. -/
module

public import proofs.«01_k».proof.Proof.Gen.Kernel4Ideal.Skeleton
public import proofs.«01_k».proof.Proof.FfnBlock
public import proofs.«01_k».proof.Proof.InMath
public import Idealize.ShloMosaic.Lib.Pointwise

@[expose] public section
set_option maxRecDepth 16384
noncomputable section
open Idealize.ShloMosaic Idealize.ShloMosaic.TcCoe Idealize.SL.Sem
namespace Cert.Kernel4Ideal.Inproj
open Cert.Kernel4Ideal Cert.Kernel4Ideal.Gen Cert.Inproj
open Cert.Ffn (normed)
open Cert.Kernel3Ideal.Ffn (pick select_pick norm norm_at)

/-- The block's row norm is that of the picked block. -/
theorem pay1_at (i : grid0.Coords) (hi : (i 0).val < 34) (xa xb : FVec Ideal S512x1024 .f32) (g : FVec Ideal S1x1024 .f32)
    (r : Fin 512) (k : Fin 1024) :
    k0_pay1 (F := Ideal) i xa xb g (ix2 r k) = normed (fun j => pick (i 0).val xa xb (ix2 r j)) (fun j => g (ix2 0 j)) k := by
  have e : k0_pay1 (F := Ideal) i xa xb g = norm (pick (i 0).val xa xb) g := by
    rw [← select_pick _ hi]
    unfold k0_pay1
    simp only [shapeCast_self]
    rfl
  rw [e]
  exact norm_at _ _ r k

/-- The head that a lane is in, by a shift. -/
theorem shift_lane : ∀ k : Fin 256, IntOp.shrsi .vector (BitVec.ofNat 32 k.val) 6#32 = BitVec.ofNat 32 (k.val / 64) := by
  decide +kernel

/-- The block matrix: a sixty-fourth where row and column are in one head. -/
theorem pay2_at (k l : Fin 256) : k0_pay2 (F := Ideal) (ix2 k l)
    = if k.val / 64 = l.val / 64 then Ideal.ofBits .f32 0x3C800000#32 else 0 := by
  pointwise [k0_pay2]
  rw [shift_lane, shift_lane]
  have key : IntOp.cmpi .eq (BitVec.ofNat 32 (k.val / 64)) (BitVec.ofNat 32 (l.val / 64)) = 1#1 ↔ k.val / 64 = l.val / 64 := by
    refine IntOp.cmpi_eq.trans ⟨fun h => ?_, fun h => congrArg _ h⟩
    have := congrArg BitVec.toNat h
    simp only [BitVec.toNat_ofNat] at this
    omega
  unfold Scalar.select
  exact if_congr key rfl rfl

/-- The rows' products with columns of the weights. -/
theorem pay6_at (x : FVec Ideal S512x1024 .bf16) (w : FVec Ideal S1024x128 .bf16) (r : Fin 512) (l : Fin 128) :
    k0_pay6 (F := Ideal) x w (ix2 r l) = ∑ k : Fin 1024, x (ix2 r k) * w (ix2 k l) := by
  pointwise [k0_pay6]

theorem pay7_at (x : FVec Ideal S512x1024 .bf16) (w : FVec Ideal S1024x1024 .bf16) (r : Fin 512) (l : Fin 1024) :
    k0_pay7 (F := Ideal) x w (ix2 r l) = ∑ k : Fin 1024, x (ix2 r k) * w (ix2 k l) := by
  pointwise [k0_pay7]

theorem pay8_at (x : FVec Ideal S512x1024 .bf16) (w : FVec Ideal S1024x1024 .bf16) (r : Fin 512) (l : Fin 1024) :
    k0_pay8 (F := Ideal) x w (ix2 r l) = ∑ k : Fin 1024, x (ix2 r k) * w (ix2 k l) := pay7_at x w r l

theorem pay11_at (x : FVec Ideal S512x1024 .bf16) (w : FVec Ideal S1024x256 .bf16) (r : Fin 512) (l : Fin 256) :
    k0_pay11 (F := Ideal) x w (ix2 r l) = ∑ k : Fin 1024, x (ix2 r k) * w (ix2 k l) := by
  pointwise [k0_pay11]

/-- The norm of four heads side by side. -/
def norm4 (p : FVec Ideal S512x256 .f32) (g : FVec Ideal S1x256 .f32) : FVec Ideal S512x256 .f32 :=
  mulf (mulf p (rsqrt (addf (matmul dot_S512x256_S256x256_S512x256_1_0_0_1_n_n none (truncf .bf16 (mulf p p) bitsLt_bf16_f32 : FVec Ideal S512x256 .bf16)
    (k0_pay2 (F := Ideal)) (constant S512x256 .f32 0x00000000#32)) (broadcast S512x256 (Scalar.ofBits (F := Ideal) .f32 0x358637BD#32)))))
    (broadcastTo S512x256 g broadcasts_S1x256_S512x256)

/-- The norm of two heads side by side. -/
def norm2 (p : FVec Ideal S512x128 .f32) (g : FVec Ideal S1x128 .f32) : FVec Ideal S512x128 .f32 :=
  mulf (mulf p (rsqrt (addf (matmul dot_S512x128_S128x128_S512x128_1_0_0_1_n_n none (truncf .bf16 (mulf p p) bitsLt_bf16_f32 : FVec Ideal S512x128 .bf16)
    (extractStridedSlice S128x128 ![0, 0] (k0_pay2 (F := Ideal)) slices_S256x256_o0_0_S128x128 : FVec Ideal S128x128 .bf16) (constant S512x128 .f32 0x00000000#32))
    (broadcast S512x128 (Scalar.ofBits (F := Ideal) .f32 0x358637BD#32))))) (broadcastTo S512x128 g broadcasts_S1x128_S512x128)

theorem norm4_at (p : FVec Ideal S512x256 .f32) (g : FVec Ideal S1x256 .f32) (e : Fin 64 → EReal)
    (he : ∀ l : Fin 256, g (ix2 0 l) = e ⟨l.val % 64, by omega⟩) (r : Fin 512) (l : Fin 256) :
    norm4 p g (ix2 r l) = headed (by decide) (fun l => p (ix2 r l)) e l := by
  unfold headed
  rw [← mean_lanes (n := 256) (by decide) (fun l => p (ix2 r l) * p (ix2 r l)), ← he]
  simp only [← pay2_at]
  unfold norm4
  generalize k0_pay2 (F := Ideal) = b
  pointwise

theorem norm2_at (p : FVec Ideal S512x128 .f32) (g : FVec Ideal S1x128 .f32) (e : Fin 64 → EReal)
    (he : ∀ l : Fin 128, g (ix2 0 l) = e ⟨l.val % 64, by omega⟩) (r : Fin 512) (l : Fin 128) :
    norm2 p g (ix2 r l) = headed (by decide) (fun l => p (ix2 r l)) e l := by
  have hb : ∀ k l : Fin 128, k0_pay2 (F := Ideal) (ix2 ⟨k.val, by omega⟩ ⟨l.val, by omega⟩)
      = if k.val / 64 = l.val / 64 then Ideal.ofBits .f32 0x3C800000#32 else 0 := fun k l => pay2_at _ _
  unfold headed
  rw [← mean_lanes (n := 128) (by decide) (fun l => p (ix2 r l) * p (ix2 r l)), ← he]
  simp only [← hb]
  unfold norm2
  generalize k0_pay2 (F := Ideal) = b
  pointwise

/-- The stores' values as the norms of the products. -/
theorem pay4_eq (i : grid0.Coords) (xa xb : FVec Ideal S512x1024 .f32) (g : FVec Ideal S1x1024 .f32) (w : FVec Ideal S1024x256 .bf16)
    (e : FVec Ideal S1x256 .f32) : k0_pay4 (F := Ideal) (k0_pay3 (F := Ideal) i xa xb g w) e
      = norm4 (k0_pay11 (F := Ideal) (k0_pay1 (F := Ideal) i xa xb g) w) e := by
  unfold k0_pay4
  simp only [shapeCast_self]
  rfl

theorem pay5_eq (x : FVec Ideal S512x1024 .bf16) (w : FVec Ideal S1024x128 .bf16) (e : FVec Ideal S1x128 .f32) :
    k0_pay5 (F := Ideal) x (k0_pay2 (F := Ideal)) w e = norm2 (k0_pay6 (F := Ideal) x w) e := by
  unfold k0_pay5
  simp only [shapeCast_self]
  rfl

theorem pay9_eq (x : FVec Ideal S512x1024 .bf16) (w : FVec Ideal S1024x256 .bf16) (e : FVec Ideal S1x256 .f32) :
    k0_pay9 (F := Ideal) x (k0_pay2 (F := Ideal)) w e = norm4 (k0_pay11 (F := Ideal) x w) e := by
  unfold k0_pay9
  simp only [shapeCast_self]
  rfl

theorem pay10_eq (x : FVec Ideal S512x1024 .bf16) (w : FVec Ideal S1024x256 .bf16) (e : FVec Ideal S1x256 .f32) :
    k0_pay10 (F := Ideal) x (k0_pay2 (F := Ideal)) w e = norm4 (k0_pay11 (F := Ideal) x w) e := pay9_eq x w e

end Cert.Kernel4Ideal.Inproj

end
-- ==== Proof.InArray.lean ====
/- The arrays that the input projection writes, at an index: each grid step leaves its block of rows, and the blocks tile the
   arrays. -/
module

public import proofs.«01_k».proof.Proof.Gen.Kernel4Ideal.Frame
public import proofs.«01_k».proof.Proof.FfnArray
public import proofs.«01_k».proof.Proof.InBlock

@[expose] public section
set_option maxRecDepth 16384
noncomputable section
open Idealize.ShloMosaic Idealize.ShloMosaic.TcCoe Idealize.SL.Sem
namespace Cert.Kernel4Ideal.Inproj
open Cert.Kernel4Ideal Cert.Kernel4Ideal.Gen Cert.Inproj
open Cert.Ffn (normed source)
open Cert.Kernel3Ideal.Ffn (pick pick_source)
variable (m : (ℓ : Loc nD τ sig) → Buf (Elt Ideal) ℓ)

/-- Where each window's block lies at each grid step. -/
theorem idx : ∀ t : Fin cfg0.N, (grid0.coords t 0).val = t.val
    ∧ win0_0.index t = ![min t.val 31, 0] ∧ win0_1.index t = ![t.val - 32, 0]
    ∧ win0_2.index t = ![0, 0] ∧ win0_3.index t = ![0, 0] ∧ win0_4.index t = ![0, 0] ∧ win0_5.index t = ![0, 0]
    ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] := (by decide +kernel : ∀ t : Fin grid0.N, _)

/-- Row `i` of the input. -/
def rowX (c : Dev nD) (i : Fin 17408) : Fin 1024 → EReal :=
  source (fun i l => m ((c : Thread nD τ).loc main_arg0) (ix2 i l)) (fun i l => m ((c : Thread nD τ).loc main_arg1) (ix2 i l)) i

/-- Row `i` of the input's norm. -/
def rowNorm (c : Dev nD) (i : Fin 17408) : Fin 1024 → EReal :=
  normed (rowX m c i) (fun k => m ((c : Thread nD τ).loc main_arg2) (ix1 k))

/-- The projection's weights. -/
def weights (c : Dev nD) (k : Fin 1024) (j : Fin 3328) : EReal := m ((c : Thread nD τ).loc main_arg3) (ix2 k j)

theorem x_at (c : Dev nD) (t : Fin cfg0.N) (r : Fin 512) (l : Fin 1024) (i : Fin 17408) (h : i.val = 512 * t.val + r.val) :
    pick t.val (iblk m c 0 t : FVec Ideal S512x1024 .f32) (iblk m c 1 t) (ix2 r l) = rowX m c i l := by
  refine pick_source _ _ _ _ _ r l _ i h (fun hj i' hi => ?_) (fun hj i' hi => ?_)
  · blk_ext [iblk, V, idx t]
  · blk_ext [iblk, V, idx t]

theorem n_at (c : Dev nD) (t : Fin cfg0.N) (k : Fin 1024) :
    iblk m c 2 t (ix2 0 k) = m ((c : Thread nD τ).loc main_arg2) (ix1 k) := by
  blk_simp [iblk, idx t]
  entry_read
  pointwise
  blk_ext [idx t]

theorem w_at (c : Dev nD) (t : Fin cfg0.N) (k : Fin 1024) (j : Fin 3328) :
    iblk m c 3 t (ix2 k j) = weights m c k j := by
  unfold weights
  blk_ext [iblk, V, idx t]

/-- A head's gain. -/
def gain (a : FVec Ideal S64 .f32) (d : Fin 64) : EReal := a (ix1 d)

theorem g4_at (c : Dev nD) (t : Fin cfg0.N) (l : Fin 256) :
    iblk m c 4 t (ix2 0 l) = gain (m ((c : Thread nD τ).loc main_arg4)) ⟨l.val % 64, by omega⟩ := by
  unfold gain
  blk_simp [iblk, idx t]
  entry_read
  pointwise
  blk_ext [idx t]

theorem g5_at (c : Dev nD) (t : Fin cfg0.N) (l : Fin 128) :
    iblk m c 5 t (ix2 0 l) = gain (m ((c : Thread nD τ).loc main_arg5)) ⟨l.val % 64, by omega⟩ := by
  unfold gain
  blk_simp [iblk, idx t]
  entry_read
  pointwise
  blk_ext [idx t]

theorem g6_at (c : Dev nD) (t : Fin cfg0.N) (l : Fin 256) :
    iblk m c 6 t (ix2 0 l) = gain (m ((c : Thread nD τ).loc main_arg6)) ⟨l.val % 64, by omega⟩ := by
  unfold gain
  blk_simp [iblk, idx t]
  entry_read
  pointwise
  blk_ext [idx t]

theorem g7_at (c : Dev nD) (t : Fin cfg0.N) (l : Fin 256) :
    iblk m c 7 t (ix2 0 l) = gain (m ((c : Thread nD τ).loc main_arg7)) ⟨l.val % 64, by omega⟩ := by
  unfold gain
  blk_simp [iblk, idx t]
  entry_read
  pointwise
  blk_ext [idx t]

/-- Columns of the weights, read at an index. -/
theorem columns_at (w : FVec Ideal S1024x3328 .bf16) (s n : ℕ) (h : ∀ a, ![0, s] a + ![1024, n] a ≤ S1024x3328.size a)
    (hs : s + n ≤ 3328) (k : Fin 1024) (l : Fin n) :
    View.ld (Val := Elt Ideal) (S := S1024x3328) (e' := .bf16) w (Rect.unit ![0, s] ![1024, n] h) (ix2 k l) = w (ix2 k ⟨s + l.val, by omega⟩) := by
  refine congrArg w (funext fun a => Fin.ext ?_)
  fin_cases a
  · exact (Nat.zero_add _).trans (Nat.one_mul k.val)
  · exact congrArg (s + ·) (Nat.one_mul l.val)

/-- A step's row norm is its rows of the norm. -/
theorem blockNorm_at (c : Dev nD) (t : Fin cfg0.N) (r : Fin 512) (k : Fin 1024) (i : Fin 17408)
    (h : i.val = 512 * t.val + r.val) :
    k0_pay1 (F := Ideal) (grid0.coords t) (iblk m c 0 t) (iblk m c 1 t) (iblk m c 2 t) (ix2 r k) = rowNorm m c i k := by
  have ht : t.val < 34 := t.isLt
  refine (pay1_at _ (by rw [(idx t).1]; exact ht) _ _ _ r k).trans ?_
  rw [(idx t).1]
  exact congrArg₂ (fun x g => normed x g k) (funext fun j => x_at m c t r j i h) (funext fun j => n_at m c t j)

/-- A step's products with columns of the weights are its rows of the projection. -/
theorem product_at (c : Dev nD) (t : Fin cfg0.N) (r : Fin 512) (i : Fin 17408) (hi : i.val = 512 * t.val + r.val)
    (s n : ℕ) (h : ∀ a, ![0, s] a + ![1024, n] a ≤ S1024x3328.size a) (hs : s + n ≤ 3328) (l : Fin n) :
    (∑ k : Fin 1024, k0_pay1 (F := Ideal) (grid0.coords t) (iblk m c 0 t) (iblk m c 1 t) (iblk m c 2 t) (ix2 r k)
      * View.ld (Val := Elt Ideal) (S := S1024x3328) (e' := .bf16) (iblk m c 3 t) (Rect.unit ![0, s] ![1024, n] h) (ix2 k l))
      = part (rowNorm m c i) (weights m c) s hs l := by
  refine Finset.sum_congr rfl fun k _ => congrArg₂ (fun a b : EReal => a * b) ?_ ?_
  · exact blockNorm_at m c t r k i hi
  · exact (columns_at _ s n h hs k l).trans (w_at m c t k _)

/-- The norm of four heads of a step's products. -/
theorem heads4_at (c : Dev nD) (t : Fin cfg0.N) (r : Fin 512) (i : Fin 17408) (hi : i.val = 512 * t.val + r.val)
    (s : ℕ) (h : ∀ a, ![0, s] a + ![1024, 256] a ≤ S1024x3328.size a) (hs : s + 256 ≤ 3328) (b : FVec Ideal S1x256 .f32) (e : Fin 64 → EReal)
    (he : ∀ l : Fin 256, b (ix2 0 l) = e ⟨l.val % 64, by omega⟩) (l : Fin 256) :
    norm4 (k0_pay11 (F := Ideal) (k0_pay1 (F := Ideal) (grid0.coords t) (iblk m c 0 t) (iblk m c 1 t) (iblk m c 2 t))
      (View.ld (Val := Elt Ideal) (S := S1024x3328) (e' := .bf16) (iblk m c 3 t) (Rect.unit ![0, s] ![1024, 256] h))) b (ix2 r l)
      = headed (by decide) (part (rowNorm m c i) (weights m c) s hs) e l := by
  refine (norm4_at _ _ e he r l).trans (congrArg (fun p => headed (by decide) p e l) (funext fun l => ?_))
  exact (pay11_at _ _ r l).trans (product_at m c t r i hi s 256 h hs l)

/-- The norm of two heads of a step's products. -/
theorem heads2_at (c : Dev nD) (t : Fin cfg0.N) (r : Fin 512) (i : Fin 17408) (hi : i.val = 512 * t.val + r.val)
    (s : ℕ) (h : ∀ a, ![0, s] a + ![1024, 128] a ≤ S1024x3328.size a) (hs : s + 128 ≤ 3328) (b : FVec Ideal S1x128 .f32) (e : Fin 64 → EReal)
    (he : ∀ l : Fin 128, b (ix2 0 l) = e ⟨l.val % 64, by omega⟩) (l : Fin 128) :
    norm2 (k0_pay6 (F := Ideal) (k0_pay1 (F := Ideal) (grid0.coords t) (iblk m c 0 t) (iblk m c 1 t) (iblk m c 2 t))
      (View.ld (Val := Elt Ideal) (S := S1024x3328) (e' := .bf16) (iblk m c 3 t) (Rect.unit ![0, s] ![1024, 128] h))) b (ix2 r l)
      = headed (by decide) (part (rowNorm m c i) (weights m c) s hs) e l := by
  refine (norm2_at _ _ e he r l).trans (congrArg (fun p => headed (by decide) p e l) (funext fun l => ?_))
  exact (pay6_at _ _ r l).trans (product_at m c t r i hi s 128 h hs l)

/-- Four heads at row `i`, from the weights' columns `s` on. -/
def heads4 (c : Dev nD) (s : ℕ) (hs : s + 256 ≤ 3328) (a : FVec Ideal S64 .f32) (i : Fin 17408) (l : Fin 256) : EReal :=
  headed (by decide) (part (rowNorm m c i) (weights m c) s hs) (gain a) l

/-- Two heads at row `i`, from the weights' columns `s` on. -/
def heads2 (c : Dev nD) (s : ℕ) (hs : s + 128 ≤ 3328) (a : FVec Ideal S64 .f32) (i : Fin 17408) (l : Fin 128) : EReal :=
  headed (by decide) (part (rowNorm m c i) (weights m c) s hs) (gain a) l

/-- The attention's queries. -/
theorem final8 (c : Dev nD) : (dats m 0 c).arrAt 8 cfg0.N = fun i : S17408x256.Idx =>
    heads4 m c 0 (by decide) (m ((c : Thread nD τ).loc main_arg4)) (i 0) (i 1) := by
  refine (dats m 0 c).arrAt_eq_of_covers 8 _ (by decide +kernel) fun t hf y => ?_
  have hx : win0_8.index t = ![t.val, 0] := by simp only [idx t]
  blk_simp
  rw [after0_8]
  have e0 : ((win0_8.blk t).view.emb y 0 : ℕ) = 512 * t.val + (y 0 : ℕ) := by blk_simp [hx]; omega
  have e1 : ((win0_8.blk t).view.emb y 1 : ℕ) = (y 1 : ℕ) := by blk_simp [hx]
  generalize ((win0_8.blk t).view.emb y) = i at e0 e1 ⊢
  have e : i 1 = y 1 := Fin.ext e1
  unfold out0_8
  frame_open
  frame_out
  rw [pay4_eq, e]
  exact (congrArg _ (eq_ix2 y)).trans (heads4_at m c t (y 0) (i 0) e0 0 _ (by decide) _ _ (g4_at m c t) (y 1))

/-- The attention's keys. -/
theorem final9 (c : Dev nD) : (dats m 0 c).arrAt 9 cfg0.N = fun i : S17408x128.Idx =>
    heads2 m c 256 (by decide) (m ((c : Thread nD τ).loc main_arg5)) (i 0) (i 1) := by
  refine (dats m 0 c).arrAt_eq_of_covers 9 _ (by decide +kernel) fun t hf y => ?_
  have hx : win0_9.index t = ![t.val, 0] := by simp only [idx t]
  blk_simp
  rw [after0_9]
  have e0 : ((win0_9.blk t).view.emb y 0 : ℕ) = 512 * t.val + (y 0 : ℕ) := by blk_simp [hx]; omega
  have e1 : ((win0_9.blk t).view.emb y 1 : ℕ) = (y 1 : ℕ) := by blk_simp [hx]
  generalize ((win0_9.blk t).view.emb y) = i at e0 e1 ⊢
  have e : i 1 = y 1 := Fin.ext e1
  unfold_out out0_9
  frame_open
  frame_out
  rw [pay5_eq, e]
  exact (congrArg _ (eq_ix2 y)).trans (heads2_at m c t (y 0) (i 0) e0 256 _ (by decide) _ _ (g5_at m c t) (y 1))

/-- The attention's values. -/
theorem final10 (c : Dev nD) : (dats m 0 c).arrAt 10 cfg0.N = fun i : S17408x128.Idx =>
    part (rowNorm m c (i 0)) (weights m c) 384 (by decide) (i 1) := by
  refine (dats m 0 c).arrAt_eq_of_covers 10 _ (by decide +kernel) fun t hf y => ?_
  have hx : win0_10.index t = ![t.val, 0] := by simp only [idx t]
  blk_simp
  rw [after0_10]
  have e0 : ((win0_10.blk t).view.emb y 0 : ℕ) = 512 * t.val + (y 0 : ℕ) := by blk_simp [hx]; omega
  have e1 : ((win0_10.blk t).view.emb y 1 : ℕ) = (y 1 : ℕ) := by blk_simp [hx]
  generalize ((win0_10.blk t).view.emb y) = i at e0 e1 ⊢
  have e : i 1 = y 1 := Fin.ext e1
  unfold_out out0_10
  frame_open
  frame_out
  rw [e]
  exact (congrArg _ (eq_ix2 y)).trans ((pay6_at _ _ (y 0) (y 1)).trans (product_at m c t (y 0) (i 0) e0 384 128 _ (by decide) (y 1)))

/-- The first of the two wide parts. -/
theorem final11 (c : Dev nD) : (dats m 0 c).arrAt 11 cfg0.N = fun i : S17408x1024.Idx =>
    part (rowNorm m c (i 0)) (weights m c) 512 (by decide) (i 1) := by
  refine (dats m 0 c).arrAt_eq_of_covers 11 _ (by decide +kernel) fun t hf y => ?_
  have hx : win0_11.index t = ![t.val, 0] := by simp only [idx t]
  blk_simp
  rw [after0_11]
  have e0 : ((win0_11.blk t).view.emb y 0 : ℕ) = 512 * t.val + (y 0 : ℕ) := by blk_simp [hx]; omega
  have e1 : ((win0_11.blk t).view.emb y 1 : ℕ) = (y 1 : ℕ) := by blk_simp [hx]
  generalize ((win0_11.blk t).view.emb y) = i at e0 e1 ⊢
  have e : i 1 = y 1 := Fin.ext e1
  unfold_out out0_11
  frame_open
  frame_out
  rw [e]
  exact (congrArg _ (eq_ix2 y)).trans ((pay7_at _ _ (y 0) (y 1)).trans (product_at m c t (y 0) (i 0) e0 512 1024 _ (by decide) (y 1)))

/-- The second of the two wide parts. -/
theorem final12 (c : Dev nD) : (dats m 0 c).arrAt 12 cfg0.N = fun i : S17408x1024.Idx =>
    part (rowNorm m c (i 0)) (weights m c) 1536 (by decide) (i 1) := by
  refine (dats m 0 c).arrAt_eq_of_covers 12 _ (by decide +kernel) fun t hf y => ?_
  have hx : win0_12.index t = ![t.val, 0] := by simp only [idx t]
  blk_simp
  rw [after0_12]
  have e0 : ((win0_12.blk t).view.emb y 0 : ℕ) = 512 * t.val + (y 0 : ℕ) := by blk_simp [hx]; omega
  have e1 : ((win0_12.blk t).view.emb y 1 : ℕ) = (y 1 : ℕ) := by blk_simp [hx]
  generalize ((win0_12.blk t).view.emb y) = i at e0 e1 ⊢
  have e : i 1 = y 1 := Fin.ext e1
  unfold_out out0_12
  frame_open
  frame_out
  rw [e]
  exact (congrArg _ (eq_ix2 y)).trans ((pay8_at _ _ (y 0) (y 1)).trans (product_at m c t (y 0) (i 0) e0 1536 1024 _ (by decide) (y 1)))

/-- The second mixer's queries. -/
theorem final13 (c : Dev nD) : (dats m 0 c).arrAt 13 cfg0.N = fun i : S17408x256.Idx =>
    heads4 m c 2560 (by decide) (m ((c : Thread nD τ).loc main_arg6)) (i 0) (i 1) := by
  refine (dats m 0 c).arrAt_eq_of_covers 13 _ (by decide +kernel) fun t hf y => ?_
  have hx : win0_13.index t = ![t.val, 0] := by simp only [idx t]
  blk_simp
  rw [after0_13]
  have e0 : ((win0_13.blk t).view.emb y 0 : ℕ) = 512 * t.val + (y 0 : ℕ) := by blk_simp [hx]; omega
  have e1 : ((win0_13.blk t).view.emb y 1 : ℕ) = (y 1 : ℕ) := by blk_simp [hx]
  generalize ((win0_13.blk t).view.emb y) = i at e0 e1 ⊢
  have e : i 1 = y 1 := Fin.ext e1
  unfold_out out0_13
  frame_open
  frame_out
  rw [pay9_eq, e]
  exact (congrArg _ (eq_ix2 y)).trans (heads4_at m c t (y 0) (i 0) e0 2560 _ (by decide) _ _ (g6_at m c t) (y 1))

/-- The second mixer's keys. -/
theorem final14 (c : Dev nD) : (dats m 0 c).arrAt 14 cfg0.N = fun i : S17408x256.Idx =>
    heads4 m c 2816 (by decide) (m ((c : Thread nD τ).loc main_arg7)) (i 0) (i 1) := by
  refine (dats m 0 c).arrAt_eq_of_covers 14 _ (by decide +kernel) fun t hf y => ?_
  have hx : win0_14.index t = ![t.val, 0] := by simp only [idx t]
  blk_simp
  rw [after0_14]
  have e0 : ((win0_14.blk t).view.emb y 0 : ℕ) = 512 * t.val + (y 0 : ℕ) := by blk_simp [hx]; omega
  have e1 : ((win0_14.blk t).view.emb y 1 : ℕ) = (y 1 : ℕ) := by blk_simp [hx]
  generalize ((win0_14.blk t).view.emb y) = i at e0 e1 ⊢
  have e : i 1 = y 1 := Fin.ext e1
  unfold_out out0_14
  frame_open
  frame_out
  rw [pay10_eq, e]
  exact (congrArg _ (eq_ix2 y)).trans (heads4_at m c t (y 0) (i 0) e0 2816 _ (by decide) _ _ (g7_at m c t) (y 1))

/-- The second mixer's values. -/
theorem final15 (c : Dev nD) : (dats m 0 c).arrAt 15 cfg0.N = fun i : S17408x256.Idx =>
    part (rowNorm m c (i 0)) (weights m c) 3072 (by decide) (i 1) := by
  refine (dats m 0 c).arrAt_eq_of_covers 15 _ (by decide +kernel) fun t hf y => ?_
  have hx : win0_15.index t = ![t.val, 0] := by simp only [idx t]
  blk_simp
  rw [after0_15]
  have e0 : ((win0_15.blk t).view.emb y 0 : ℕ) = 512 * t.val + (y 0 : ℕ) := by blk_simp [hx]; omega
  have e1 : ((win0_15.blk t).view.emb y 1 : ℕ) = (y 1 : ℕ) := by blk_simp [hx]
  generalize ((win0_15.blk t).view.emb y) = i at e0 e1 ⊢
  have e : i 1 = y 1 := Fin.ext e1
  unfold_out out0_15
  frame_open
  frame_out
  rw [e]
  exact (congrArg _ (eq_ix2 y)).trans ((pay11_at _ _ (y 0) (y 1)).trans (product_at m c t (y 0) (i 0) e0 3072 256 _ (by decide) (y 1)))

end Cert.Kernel4Ideal.Inproj

end
-- ==== Proof.InReference.lean ====
/- The plain input projection, read at an index. -/
module

public import proofs.«01_k».proof.Proof.Gen.Reference4Ideal.Run
public import proofs.«01_k».proof.Proof.FfnReference
public import proofs.«01_k».proof.Proof.InMath
public import Idealize.ShloMosaic.Lib.Pointwise
public import Idealize.ShloMosaic.Lib.IdealHost

@[expose] public section
set_option maxRecDepth 16384
noncomputable section
open Idealize.ShloMosaic Idealize.ShloMosaic.TcCoe Idealize.SL.Sem Idealize.ShloMosaic.StableHlo
namespace Cert.Reference4Ideal.Inproj
open Cert.Reference4Ideal Cert.Reference4Ideal.Gen Cert.Inproj
open Cert.Ffn (normed source)
open Cert.Reference3Ideal.Ffn (rows norm rows_at norm_at)

/-- The rows' norm times the weights. -/
def project (x : FVec Ideal S17408x1024 .bf16) (w : FVec Ideal S1024x3328 .bf16) : FVec Ideal S17408x3328 .f32 :=
  Host.dotGeneral dot_S17408x1024_S1024x3328_S17408x3328_1_0_0_1_n_n none x w

theorem project_at (x : FVec Ideal S17408x1024 .bf16) (w : FVec Ideal S1024x3328 .bf16) (i : Fin 17408) (j : Fin 3328) :
    project x w (ix2 i j) = ∑ k : Fin 1024, x (ix2 i k) * w (ix2 k j) := by
  pointwise [project]

/-- Each of four heads divided by the root of its mean square, times the gain. -/
def heads4 (z : FVec Ideal S17408x256 .f32) (g : FVec Ideal S64 .f32) : FVec Ideal S17408x256 .f32 :=
  shapeCast _ (mulf (mulf (shapeCast _ z shapeCasts_S17408x256_S17408x4x64 : FVec Ideal S17408x4x64 .f32) (broadcastInDim S17408x4x64 ![0, 1, 2] bcast_S17408x4x1_S17408x4x64_0_1_2 (Host.rsqrt (addf (Host.divf (broadcastInDim S17408x4x1 ![0, 1] bcast_S17408x4_S17408x4x1_0_1 (Host.reduceAdd (mulf (shapeCast _ z shapeCasts_S17408x256_S17408x4x64 : FVec Ideal S17408x4x64 .f32) (shapeCast _ z shapeCasts_S17408x256_S17408x4x64)) (constant S_ .f32 0x00000000#32) reducesTo_S17408x4x64_S17408x4_d2 h_S_)) (broadcastInDim S17408x4x1 ![] bcast_S_S17408x4x1 (constant S_ .f32 0x42800000#32))) (broadcastInDim S17408x4x1 ![] bcast_S_S17408x4x1 (constant S_ .f32 0x358637BD#32)))))) (broadcastInDim S17408x4x64 ![0, 1, 2] bcast_S1x1x64_S17408x4x64_0_1_2 (broadcastInDim S1x1x64 ![2] bcast_S64_S1x1x64_2 g))) shapeCasts_S17408x4x64_S17408x256

theorem heads4_at (z : FVec Ideal S17408x256 .f32) (g : FVec Ideal S64 .f32) (i : Fin 17408) (l : Fin 256) :
    heads4 z g (ix2 i l) = headed (by decide) (fun l => z (ix2 i l)) (fun d => g (ix1 d)) l := by
  pointwise [heads4]
  rfl

/-- Each of two heads divided by the root of its mean square, times the gain. -/
def heads2 (z : FVec Ideal S17408x128 .f32) (g : FVec Ideal S64 .f32) : FVec Ideal S17408x128 .f32 :=
  shapeCast _ (mulf (mulf (shapeCast _ z shapeCasts_S17408x128_S17408x2x64 : FVec Ideal S17408x2x64 .f32) (broadcastInDim S17408x2x64 ![0, 1, 2] bcast_S17408x2x1_S17408x2x64_0_1_2 (Host.rsqrt (addf (Host.divf (broadcastInDim S17408x2x1 ![0, 1] bcast_S17408x2_S17408x2x1_0_1 (Host.reduceAdd (mulf (shapeCast _ z shapeCasts_S17408x128_S17408x2x64 : FVec Ideal S17408x2x64 .f32) (shapeCast _ z shapeCasts_S17408x128_S17408x2x64)) (constant S_ .f32 0x00000000#32) reducesTo_S17408x2x64_S17408x2_d2 h_S_)) (broadcastInDim S17408x2x1 ![] bcast_S_S17408x2x1 (constant S_ .f32 0x42800000#32))) (broadcastInDim S17408x2x1 ![] bcast_S_S17408x2x1 (constant S_ .f32 0x358637BD#32)))))) (broadcastInDim S17408x2x64 ![0, 1, 2] bcast_S1x1x64_S17408x2x64_0_1_2 (broadcastInDim S1x1x64 ![2] bcast_S64_S1x1x64_2 g))) shapeCasts_S17408x2x64_S17408x128

theorem heads2_at (z : FVec Ideal S17408x128 .f32) (g : FVec Ideal S64 .f32) (i : Fin 17408) (l : Fin 128) :
    heads2 z g (ix2 i l) = headed (by decide) (fun l => z (ix2 i l)) (fun d => g (ix1 d)) l := by
  pointwise [heads2]
  rfl

/-- Columns of an array from `s` on, read at an index. -/
theorem slice_at (z : FVec Ideal S17408x3328 .f32) (s n : ℕ) (h : S17408x3328.Slices ![0, s] (⟨2, ![17408, n]⟩ : Shape)) (hs : s + n ≤ 3328)
    (i : Fin 17408) (l : Fin n) :
    extractStridedSlice (⟨2, ![17408, n]⟩ : Shape) ![0, s] z h (ix2 i l) = z (ix2 i ⟨s + l.val, by omega⟩) := by
  refine extractStridedSlice_apply _ z h _ _ fun a => ?_
  fin_cases a
  · exact (Nat.zero_add _).symm
  · rfl

/-- The projection of the rows' norm. -/
def projected (a : FVec Ideal S16384x1024 .f32) (b : FVec Ideal S1024x1024 .f32) (g : FVec Ideal S1024 .f32)
    (w : FVec Ideal S1024x3328 .bf16) : FVec Ideal S17408x3328 .f32 := project (norm (rows a b) g) w

/-- Columns of the projection from `s` on are the rows' part there. -/
theorem part_at (a : FVec Ideal S16384x1024 .f32) (b : FVec Ideal S1024x1024 .f32) (g : FVec Ideal S1024 .f32)
    (w : FVec Ideal S1024x3328 .bf16) (s n : ℕ) (h : S17408x3328.Slices ![0, s] (⟨2, ![17408, n]⟩ : Shape)) (hs : s + n ≤ 3328)
    (i : Fin 17408) (l : Fin n) :
    extractStridedSlice (⟨2, ![17408, n]⟩ : Shape) ![0, s] (projected a b g w) h (ix2 i l)
      = part (normed (source (fun i l => a (ix2 i l)) (fun i l => b (ix2 i l)) i) (fun k => g (ix1 k))) (fun k j => w (ix2 k j)) s hs l := by
  refine (slice_at _ s n h hs i l).trans ((project_at _ w i _).trans (Finset.sum_congr rfl fun k _ => ?_))
  refine congrArg (· * w (ix2 k _)) ((norm_at _ g i k).trans ?_)
  exact congrArg (fun x => normed x (fun k => g (ix1 k)) k) (funext fun j => rows_at a b i j)

variable (m : (ℓ : Loc nD τ sig) → Buf (Elt Ideal) ℓ)

/-- The projection on the arguments. -/
abbrev full (c : Dev nD) : FVec Ideal S17408x3328 .f32 :=
  projected (m ((c.tc : Thread nD τ).loc main_arg0)) (m ((c.tc : Thread nD τ).loc main_arg1)) (m ((c.tc : Thread nD τ).loc main_arg2))
    (m ((c.tc : Thread nD τ).loc main_arg3))

/-- The head norms among the reference's results. -/
theorem res_eq0 (c : Dev nD) : Value.res_out0 (F := Ideal) m c
    = heads4 (extractStridedSlice S17408x256 ![0, 0] (full m c) slices_S17408x3328_S17408x256_0_0) (m ((c.tc : Thread nD τ).loc main_arg4)) := rfl

theorem res_eq1 (c : Dev nD) : Value.res_out1 (F := Ideal) m c
    = heads2 (extractStridedSlice S17408x128 ![0, 256] (full m c) slices_S17408x3328_S17408x128_0_256) (m ((c.tc : Thread nD τ).loc main_arg5)) := rfl

theorem res_eq5 (c : Dev nD) : Value.res_out5 (F := Ideal) m c
    = heads4 (extractStridedSlice S17408x256 ![0, 2560] (full m c) slices_S17408x3328_S17408x256_0_2560) (m ((c.tc : Thread nD τ).loc main_arg6)) := rfl

theorem res_eq6 (c : Dev nD) : Value.res_out6 (F := Ideal) m c
    = heads4 (extractStridedSlice S17408x256 ![0, 2816] (full m c) slices_S17408x3328_S17408x256_0_2816) (m ((c.tc : Thread nD τ).loc main_arg7)) := rfl

end Cert.Reference4Ideal.Inproj

end
-- ==== Proof.InEquation.lean ====
/- The input projection's arrays against the reference's results. -/
module

public import proofs.«01_k».proof.Proof.InArray
public import proofs.«01_k».proof.Proof.InReference

@[expose] public section
set_option maxRecDepth 16384
noncomputable section
open Idealize.ShloMosaic Idealize.ShloMosaic.TcCoe Idealize.SL.Sem
namespace Cert.InEquation
open Cert.Kernel4Ideal Cert.Inproj
open Cert.Kernel4Ideal.Inproj (rowNorm weights)
open Cert.Reference4Ideal.Inproj (projected part_at heads4 heads2 heads4_at heads2_at)

variable (m : (ℓ : Loc nD τ sig) → Buf (Elt Ideal) ℓ)

/-- The reference's columns from `s` on are the kernel's. -/
theorem part_eq (c : Dev nD) (s n : ℕ) (h : Cert.Reference4Ideal.S17408x3328.Slices ![0, s] (⟨2, ![17408, n]⟩ : Shape)) (hs : s + n ≤ 3328)
    (i : Fin 17408) (l : Fin n) :
    extractStridedSlice (⟨2, ![17408, n]⟩ : Shape) ![0, s]
      (projected (m ((c.tc : Thread nD τ).loc main_arg0)) (m ((c.tc : Thread nD τ).loc main_arg1)) (m ((c.tc : Thread nD τ).loc main_arg2)) (m ((c.tc : Thread nD τ).loc main_arg3))) h (ix2 i l)
      = part (rowNorm m c i) (weights m c) s hs l :=
  part_at _ _ _ _ s n h hs i l

/-- The norm of the reference's heads is the kernel's. -/
theorem heads4_eq (c : Dev nD) (s : ℕ) (h : Cert.Reference4Ideal.S17408x3328.Slices ![0, s] S17408x256) (hs : s + 256 ≤ 3328) (a : FVec Ideal S64 .f32)
    (i : Fin 17408) (l : Fin 256) :
    Cert.Reference4Ideal.Inproj.heads4 (extractStridedSlice S17408x256 ![0, s]
      (projected (m ((c.tc : Thread nD τ).loc main_arg0)) (m ((c.tc : Thread nD τ).loc main_arg1)) (m ((c.tc : Thread nD τ).loc main_arg2)) (m ((c.tc : Thread nD τ).loc main_arg3))) h) a (ix2 i l)
      = Cert.Kernel4Ideal.Inproj.heads4 m c s hs a i l := by
  refine (heads4_at _ a i l).trans ?_
  exact congrArg (fun p => headed (by decide) p (fun d => a (ix1 d)) l) (funext fun l => part_eq m c s 256 h hs i l)

theorem heads2_eq (c : Dev nD) (s : ℕ) (h : Cert.Reference4Ideal.S17408x3328.Slices ![0, s] S17408x128) (hs : s + 128 ≤ 3328) (a : FVec Ideal S64 .f32)
    (i : Fin 17408) (l : Fin 128) :
    Cert.Reference4Ideal.Inproj.heads2 (extractStridedSlice S17408x128 ![0, s]
      (projected (m ((c.tc : Thread nD τ).loc main_arg0)) (m ((c.tc : Thread nD τ).loc main_arg1)) (m ((c.tc : Thread nD τ).loc main_arg2)) (m ((c.tc : Thread nD τ).loc main_arg3))) h) a (ix2 i l)
      = Cert.Kernel4Ideal.Inproj.heads2 m c s hs a i l := by
  refine (heads2_at _ a i l).trans ?_
  exact congrArg (fun p => headed (by decide) p (fun d => a (ix1 d)) l) (funext fun l => part_eq m c s 128 h hs i l)

/-- Each result of the reference, on the kernel's arguments, is the kernel's array. -/
theorem equation0 (c : Dev nD) :
    heads4 (extractStridedSlice S17408x256 ![0, 0]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x256_0_0) (m ((c.tc : Thread nD τ).loc main_arg4))
      = (Cert.Kernel4Ideal.Gen.dats m 0 c).arrAt 8 Cert.Kernel4Ideal.cfg0.N := by
  refine Eq.trans ?_ (Cert.Kernel4Ideal.Inproj.final8 m c).symm
  funext i
  exact (congrArg _ (eq_ix2 i)).trans (heads4_eq m c 0 Cert.Reference4Ideal.Gen.slices_S17408x3328_S17408x256_0_0 (by decide) _ (i 0) (i 1))

theorem equation1 (c : Dev nD) :
    heads2 (extractStridedSlice S17408x128 ![0, 256]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x128_0_256) (m ((c.tc : Thread nD τ).loc main_arg5))
      = (Cert.Kernel4Ideal.Gen.dats m 0 c).arrAt 9 Cert.Kernel4Ideal.cfg0.N := by
  refine Eq.trans ?_ (Cert.Kernel4Ideal.Inproj.final9 m c).symm
  funext i
  exact (congrArg _ (eq_ix2 i)).trans (heads2_eq m c 256 Cert.Reference4Ideal.Gen.slices_S17408x3328_S17408x128_0_256 (by decide) _ (i 0) (i 1))

theorem equation2 (c : Dev nD) :
    (extractStridedSlice S17408x128 ![0, 384]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x128_0_384)
      = (Cert.Kernel4Ideal.Gen.dats m 0 c).arrAt 10 Cert.Kernel4Ideal.cfg0.N := by
  refine Eq.trans ?_ (Cert.Kernel4Ideal.Inproj.final10 m c).symm
  funext i
  exact (congrArg _ (eq_ix2 i)).trans (part_eq m c 384 128 Cert.Reference4Ideal.Gen.slices_S17408x3328_S17408x128_0_384 (by decide) (i 0) (i 1))

theorem equation3 (c : Dev nD) :
    (extractStridedSlice S17408x1024 ![0, 512]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x1024_0_512)
      = (Cert.Kernel4Ideal.Gen.dats m 0 c).arrAt 11 Cert.Kernel4Ideal.cfg0.N := by
  refine Eq.trans ?_ (Cert.Kernel4Ideal.Inproj.final11 m c).symm
  funext i
  exact (congrArg _ (eq_ix2 i)).trans (part_eq m c 512 1024 Cert.Reference4Ideal.Gen.slices_S17408x3328_S17408x1024_0_512 (by decide) (i 0) (i 1))

theorem equation4 (c : Dev nD) :
    (extractStridedSlice S17408x1024 ![0, 1536]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x1024_0_1536)
      = (Cert.Kernel4Ideal.Gen.dats m 0 c).arrAt 12 Cert.Kernel4Ideal.cfg0.N := by
  refine Eq.trans ?_ (Cert.Kernel4Ideal.Inproj.final12 m c).symm
  funext i
  exact (congrArg _ (eq_ix2 i)).trans (part_eq m c 1536 1024 Cert.Reference4Ideal.Gen.slices_S17408x3328_S17408x1024_0_1536 (by decide) (i 0) (i 1))

theorem equation5 (c : Dev nD) :
    heads4 (extractStridedSlice S17408x256 ![0, 2560]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x256_0_2560) (m ((c.tc : Thread nD τ).loc main_arg6))
      = (Cert.Kernel4Ideal.Gen.dats m 0 c).arrAt 13 Cert.Kernel4Ideal.cfg0.N := by
  refine Eq.trans ?_ (Cert.Kernel4Ideal.Inproj.final13 m c).symm
  funext i
  exact (congrArg _ (eq_ix2 i)).trans (heads4_eq m c 2560 Cert.Reference4Ideal.Gen.slices_S17408x3328_S17408x256_0_2560 (by decide) _ (i 0) (i 1))

theorem equation6 (c : Dev nD) :
    heads4 (extractStridedSlice S17408x256 ![0, 2816]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x256_0_2816) (m ((c.tc : Thread nD τ).loc main_arg7))
      = (Cert.Kernel4Ideal.Gen.dats m 0 c).arrAt 14 Cert.Kernel4Ideal.cfg0.N := by
  refine Eq.trans ?_ (Cert.Kernel4Ideal.Inproj.final14 m c).symm
  funext i
  exact (congrArg _ (eq_ix2 i)).trans (heads4_eq m c 2816 Cert.Reference4Ideal.Gen.slices_S17408x3328_S17408x256_0_2816 (by decide) _ (i 0) (i 1))

theorem equation7 (c : Dev nD) :
    (extractStridedSlice S17408x256 ![0, 3072]
      (projected (m ((c.tc : Thread nD τ).loc main_arg0)) (m ((c.tc : Thread nD τ).loc main_arg1)) (m ((c.tc : Thread nD τ).loc main_arg2)) (m ((c.tc : Thread nD τ).loc main_arg3)))
      Cert.Reference4Ideal.Gen.slices_S17408x3328_S17408x256_0_3072)
      = (Cert.Kernel4Ideal.Gen.dats m 0 c).arrAt 15 Cert.Kernel4Ideal.cfg0.N := by
  refine Eq.trans ?_ (Cert.Kernel4Ideal.Inproj.final15 m c).symm
  funext i
  exact (congrArg _ (eq_ix2 i)).trans (part_eq m c 3072 256 Cert.Reference4Ideal.Gen.slices_S17408x3328_S17408x256_0_3072 (by decide) (i 0) (i 1))

end Cert.InEquation

end
-- ==== Proof.CombineMath.lean ====
/- The sum that ends a gated expert layer: a row and the rows of the two experts that it picked. -/
module

public import proofs.«01_k».proof.Proof.ExpertsMath

@[expose] public section
noncomputable section
open Idealize.ShloMosaic
namespace Cert.Combine

/-- Lane `d` of the row `x` plus the rows that the words of `a₀`, `b₀` and of `a₁`, `b₁` hold. -/
def total (x : Fin 1024 → EReal) (a₀ b₀ a₁ b₁ : Fin 256 → BitVec 32) (d : Fin 1024) : EReal :=
  x d + Experts.lane a₀ b₀ d + Experts.lane a₁ b₁ d

/-- The row of the prompt's row `i`: the prompt lies first. -/
def first (i : Fin 16384) : Fin 17408 := ⟨i.val, i.isLt.trans (by decide)⟩

/-- The row of the samples' row `i`: the samples lie behind the prompt. -/
def second (i : Fin 1024) : Fin 17408 := ⟨16384 + i.val, Nat.add_lt_add_left i.isLt 16384⟩

end Cert.Combine

end
-- ==== Proof.CombineBlock.lean ====
/- What one grid step of the sum computes from its blocks, read at an index. Both calls have the same body. -/
module

public import proofs.«01_k».proof.Proof.Gen.Kernel5Ideal.Skeleton
public import proofs.«01_k».proof.Proof.CombineMath
public import Idealize.ShloMosaic.Lib.Pointwise

@[expose] public section
set_option maxRecDepth 16384
noncomputable section
open Idealize.ShloMosaic Idealize.ShloMosaic.TcCoe Idealize.SL.Sem
namespace Cert.Kernel5Ideal.Combine
open Cert.Kernel5Ideal Cert.Kernel5Ideal.Gen Cert.Combine
open Cert.Experts (lane lane_eq)

/-- The rows unpacked from words, still as wide as they are summed. -/
def rows (a b : Vec Ideal S512x256 .i32) : FVec Ideal S512x1024 .f32 :=
  concatenate S512x1024 1 [⟨S512x256, (bitcastToFloat (F := Ideal) .f32 (andi a (broadcast S512x256 4294901760#32)) : FVec Ideal S512x256 .f32)⟩,
    ⟨S512x256, (bitcastToFloat (F := Ideal) .f32 (shli a (broadcast S512x256 16#32)) : FVec Ideal S512x256 .f32)⟩,
    ⟨S512x256, (bitcastToFloat (F := Ideal) .f32 (andi b (broadcast S512x256 4294901760#32)) : FVec Ideal S512x256 .f32)⟩,
    ⟨S512x256, (bitcastToFloat (F := Ideal) .f32 (shli b (broadcast S512x256 16#32)) : FVec Ideal S512x256 .f32)⟩]
    concatenates_S512x256_S512x256_S512x256_S512x256_S512x1024_d1

theorem rows_at (a b : Vec Ideal S512x256 .i32) (r : Fin 512) (d : Fin 1024) :
    rows a b (ix2 r d) = lane (fun l => a (ix2 r l)) (fun l => b (ix2 r l)) d := by
  pointwise [rows]
  exact lane_eq (fun l => a (ix2 r l)) (fun l => b (ix2 r l)) d .vector

/-- A step's block at an index. -/
theorem pay_at (x : Vec Ideal S512x1024 .f32) (a₀ b₀ a₁ b₁ : Vec Ideal S512x256 .i32) (r : Fin 512) (d : Fin 1024) :
    k0_pay1 (F := Ideal) x a₀ b₀ a₁ b₁ (ix2 r d)
      = total (fun d => x (ix2 r d)) (fun l => a₀ (ix2 r l)) (fun l => b₀ (ix2 r l)) (fun l => a₁ (ix2 r l)) (fun l => b₁ (ix2 r l)) d := by
  have e : k0_pay1 (F := Ideal) x a₀ b₀ a₁ b₁ = addf (addf x (rows a₀ b₀)) (rows a₁ b₁) := rfl
  rw [e]
  pointwise
  rw [rows_at, rows_at]
  rfl

/-- The second call's body is the first's. -/
theorem pay_eq (x : Vec Ideal S512x1024 .f32) (a₀ b₀ a₁ b₁ : Vec Ideal S512x256 .i32) :
    k1_pay1 (F := Ideal) x a₀ b₀ a₁ b₁ = k0_pay1 x a₀ b₀ a₁ b₁ := rfl

end Cert.Kernel5Ideal.Combine

end
-- ==== Proof.CombineArray.lean ====
/- The arrays that the two calls of the sum write, at an index: each grid step leaves its block of rows, and the blocks tile
   the arrays. The second call reads its rows behind the first's. -/
module

public import proofs.«01_k».proof.Proof.Gen.Kernel5Ideal.Frame
public import proofs.«01_k».proof.Proof.CombineBlock
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel5Ideal.Combine
open Cert.Kernel5Ideal Cert.Kernel5Ideal.Gen Cert.Combine

variable (V : (c : Dev nD) → (b : Ref sig .tc) → Buf (Elt Ideal) ((c : Thread nD τ).loc b))

/-- Where each window's block lies at each grid step of the first call. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

/-- Likewise of the second. -/
theorem idx1 : ∀ t : Fin cfg1.N, win1_0.index t = ![32 + t.val, 0] ∧ win1_1.index t = ![32 + t.val, 0] ∧ win1_2.index t = ![32 + t.val, 0]
    ∧ win1_3.index t = ![32 + t.val, 0] ∧ win1_4.index t = ![32 + t.val, 0] ∧ win1_5.index t = ![t.val, 0] :=
  (by decide +kernel : ∀ t : Fin grid1.N, _)

/-- Row `i` of the sum, at lane `d`, of the arguments as a call finds them. -/
def sumAt (c : Dev nD) (i : Fin 17408) (d : Fin 1024) : EReal :=
  total (fun d => V c main_arg0 (ix2 i d)) (fun l => V c main_arg1 (ix2 i l)) (fun l => V c main_arg2 (ix2 i l))
    (fun l => V c main_arg3 (ix2 i l)) (fun l => V c main_arg4 (ix2 i l)) d

/-- Equal rows have equal sums. -/
theorem total_congr {x x' : Fin 1024 → EReal} {a₀ a₀' b₀ b₀' a₁ a₁' b₁ b₁' : Fin 256 → BitVec 32} (hx : ∀ d, x d = x' d)
    (h₀ : ∀ l, a₀ l = a₀' l) (k₀ : ∀ l, b₀ l = b₀' l) (h₁ : ∀ l, a₁ l = a₁' l) (k₁ : ∀ l, b₁ l = b₁' l) (d : Fin 1024) :
    total x a₀ b₀ a₁ b₁ d = total x' a₀' b₀' a₁' b₁' d := by
  rw [funext hx, funext h₀, funext k₀, funext h₁, funext k₁]

/-- A step of the first call leaves its rows of the sum. -/
theorem step0_at (c : Dev nD) (t : Fin cfg0.N) (r : Fin 512) (d : Fin 1024) (i : Fin 17408) (h : i.val = 512 * t.val + r.val) :
    k0_pay1 (F := Ideal) (iblk0 V c 0 t) (iblk0 V c 1 t) (iblk0 V c 2 t) (iblk0 V c 3 t) (iblk0 V c 4 t) (ix2 r d) = sumAt V c i d := by
  refine (pay_at _ _ _ _ _ r d).trans (total_congr (fun d => ?_) (fun l => ?_) (fun l => ?_) (fun l => ?_) (fun l => ?_) d)
  all_goals blk_ext [iblk0, idx0 t]

/-- A step of the second call leaves its rows of the sum. -/
theorem step1_at (c : Dev nD) (t : Fin cfg1.N) (r : Fin 512) (d : Fin 1024) (i : Fin 17408) (h : i.val = 512 * (32 + t.val) + r.val) :
    k1_pay1 (F := Ideal) (iblk1 V c 0 t) (iblk1 V c 1 t) (iblk1 V c 2 t) (iblk1 V c 3 t) (iblk1 V c 4 t) (ix2 r d) = sumAt V c i d := by
  rw [pay_eq]
  refine (pay_at _ _ _ _ _ r d).trans (total_congr (fun d => ?_) (fun l => ?_) (fun l => ?_) (fun l => ?_) (fun l => ?_) d)
  all_goals blk_ext [iblk1, idx1 t]

/-- The first call's array: the sums of the rows from the first on. -/
theorem final0 (c : Dev nD) : (dat0 V c).arrAt 5 cfg0.N = fun i : S16384x1024.Idx =>
    sumAt V c (first (i 0)) (i 1) := by
  refine (dat0 V c).arrAt_eq_of_covers 5 _ (by decide +kernel) fun t hf y => ?_
  have hx : win0_5.index t = ![t.val, 0] := by simp only [idx0 t]
  blk_simp
  rw [after0_5]
  have e0 : ((win0_5.blk t).view.emb y 0 : ℕ) = 512 * t.val + (y 0 : ℕ) := by blk_simp [hx]; omega
  have e1 : ((win0_5.blk t).view.emb y 1 : ℕ) = (y 1 : ℕ) := by blk_simp [hx]
  generalize ((win0_5.blk t).view.emb y) = i at e0 e1 ⊢
  have e : i 1 = y 1 := Fin.ext e1
  unfold out0_5
  frame_open
  frame_out
  rw [e]
  exact (congrArg _ (eq_ix2 y)).trans (step0_at V c t (y 0) (y 1) _ e0)

/-- The second call's array: the sums of the rows behind those. -/
theorem final1 (c : Dev nD) : (dat1 V c).arrAt 5 cfg1.N = fun i : S1024x1024.Idx =>
    sumAt V c (second (i 0)) (i 1) := by
  refine (dat1 V c).arrAt_eq_of_covers 5 _ (by decide +kernel) fun t hf y => ?_
  have hx : win1_5.index t = ![t.val, 0] := by simp only [idx1 t]
  blk_simp
  rw [after1_5]
  have e0 : ((win1_5.blk t).view.emb y 0 : ℕ) = 512 * t.val + (y 0 : ℕ) := by blk_simp [hx]; omega
  have e1 : ((win1_5.blk t).view.emb y 1 : ℕ) = (y 1 : ℕ) := by blk_simp [hx]
  generalize ((win1_5.blk t).view.emb y) = i at e0 e1 ⊢
  have e : i 1 = y 1 := Fin.ext e1
  unfold out1_5
  frame_open
  frame_out
  rw [e]
  exact (congrArg _ (eq_ix2 y)).trans (step1_at V c t (y 0) (y 1) _ (by simp only [second, e0]; omega))

end Cert.Kernel5Ideal.Combine

end
-- ==== Proof.CombineRun.lean ====
/- The two calls of the sum, run one after the other: what every array of theirs holds at the end. -/
module

public import proofs.«01_k».proof.Proof.Gen.Kernel5Ideal.Frame

@[expose] public section
set_option maxRecDepth 16384
noncomputable section
namespace Cert.Kernel5Ideal.Combine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every array ends at what the second call leaves: the launch is set up as for the frame. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The first call's array is not one that the second writes. -/
theorem W2_main_v0 (c : Dev nD) : W2 m ρ c (Proc.devRef .tc main_v0) = (dat0 (V0 m ρ) c).arrAt 5 cfg0.N :=
  (W2_of m ρ c main_v0 (by decide +kernel)).trans (W1_arr m ρ c 5)

theorem W2_main_v1 (c : Dev nD) : W2 m ρ c (Proc.devRef .tc main_v1) = (dat1 (V1 m ρ) c).arrAt 5 cfg1.N :=
  W2_arr m ρ c 5

/-- Each result ends at what its call writes. -/
theorem results : θ_run defs (onTc (τ := τ) (main (F := F))) ⟨m, fun _ => 0, ρ⟩ (fun r => ∀ c : Dev nD,
      r.2.mem ((c.tc : Thread nD τ).loc main_v0) = (dat0 (V0 m ρ) c).arrAt 5 cfg0.N
      ∧ r.2.mem ((c.tc : Thread nD τ).loc main_v1) = (dat1 (V1 m ρ) c).arrAt 5 cfg1.N) :=
  (θ_run defs _ _).mono (fun _ h c => ⟨(h c _ (mem_uc main_v0 (by decide))).trans (W2_main_v0 m ρ c),
    (h c _ (mem_uc main_v1 (by decide))).trans (W2_main_v1 m ρ c)⟩) (run m ρ)

end Cert.Kernel5Ideal.Combine

end
-- ==== Proof.CombineReference.lean ====
/- The plain sum of the residual rows and the picked experts' rows, read at an index. -/
module

public import proofs.«01_k».proof.Proof.Gen.Reference5Ideal.Run
public import proofs.«01_k».proof.Proof.CombineMath
public import Idealize.ShloMosaic.Lib.Pointwise
public import Idealize.ShloMosaic.Lib.IdealHost

@[expose] public section
set_option maxRecDepth 16384
noncomputable section
open Idealize.ShloMosaic Idealize.ShloMosaic.TcCoe Idealize.SL.Sem Idealize.ShloMosaic.StableHlo
namespace Cert.Reference5Ideal.Combine
open Cert.Reference5Ideal Cert.Reference5Ideal.Gen Cert.Combine
open Cert.Experts (lane lane_eq)

/-- A quarter of the rows: the high halves of the words, -/
def high (a : Vec Ideal S17408x256 .i32) : FVec Ideal S17408x256 .f32 :=
  bitcastToFloat (F := Ideal) .f32 (andi a (broadcastInDim S17408x256 ![] bcast_S_S17408x256 (constantI S_ 32 4294901760#32)))

/-- or their low halves. -/
def low (a : Vec Ideal S17408x256 .i32) : FVec Ideal S17408x256 .f32 :=
  bitcastToFloat (F := Ideal) .f32 (Host.shli a (broadcastInDim S17408x256 ![] bcast_S_S17408x256 (constantI S_ 32 16#32)))

/-- The rows that two arrays of words hold. -/
def rows (a b : Vec Ideal S17408x256 .i32) : FVec Ideal S17408x1024 .f32 :=
  extf .f32 (truncf .bf16 (concatenate S17408x1024 1 [⟨S17408x256, high a⟩, ⟨S17408x256, low a⟩, ⟨S17408x256, high b⟩, ⟨S17408x256, low b⟩]
    concatenates_S17408x256_S17408x256_S17408x256_S17408x256_S17408x1024_d1 : FVec Ideal S17408x1024 .f32) bitsLt_bf16_f32) bitsLt_bf16_f32

theorem rows_at (a b : Vec Ideal S17408x256 .i32) (i : Fin 17408) (d : Fin 1024) :
    rows a b (ix2 i d) = lane (fun l => a (ix2 i l)) (fun l => b (ix2 i l)) d := by
  pointwise [rows, high, low]
  exact lane_eq (fun l => a (ix2 i l)) (fun l => b (ix2 i l)) d .host

/-- The sums of all rows. -/
def sums (x : FVec Ideal S17408x1024 .f32) (a₀ b₀ a₁ b₁ : Vec Ideal S17408x256 .i32) : FVec Ideal S17408x1024 .f32 :=
  addf (addf x (rows a₀ b₀)) (rows a₁ b₁)

theorem sums_at (x : FVec Ideal S17408x1024 .f32) (a₀ b₀ a₁ b₁ : Vec Ideal S17408x256 .i32) (i : Fin 17408) (d : Fin 1024) :
    sums x a₀ b₀ a₁ b₁ (ix2 i d) = total (fun d => x (ix2 i d)) (fun l => a₀ (ix2 i l)) (fun l => b₀ (ix2 i l)) (fun l => a₁ (ix2 i l))
      (fun l => b₁ (ix2 i l)) d := by
  pointwise [sums]
  rw [rows_at, rows_at]
  rfl

/-- The prompt's rows. -/
def prompt (y : FVec Ideal S17408x1024 .f32) : FVec Ideal S16384x1024 .f32 :=
  extractStridedSlice S16384x1024 ![0, 0] y slices_S17408x1024_S16384x1024_0_0

/-- The samples' rows. -/
def sample (y : FVec Ideal S17408x1024 .f32) : FVec Ideal S1024x1024 .f32 :=
  extractStridedSlice S1024x1024 ![16384, 0] y slices_S17408x1024_S1024x1024_16384_0

theorem prompt_at (y : FVec Ideal S17408x1024 .f32) (i : Fin 16384) (d : Fin 1024) :
    prompt y (ix2 i d) = y (ix2 (first i) d) := by
  pointwise [prompt, first]

theorem sample_at (y : FVec Ideal S17408x1024 .f32) (i : Fin 1024) (d : Fin 1024) :
    sample y (ix2 i d) = y (ix2 (second i) d) := by
  pointwise [sample, second]

end Cert.Reference5Ideal.Combine

end
-- ==== Proof.CombineEquation.lean ====
/- The arrays of the two calls of the sum against the reference's results. -/
module

public import proofs.«01_k».proof.Proof.CombineArray
public import proofs.«01_k».proof.Proof.CombineRun
public import proofs.«01_k».proof.Proof.CombineReference

@[expose] public section
set_option maxRecDepth 16384
noncomputable section
open Idealize.ShloMosaic Idealize.ShloMosaic.TcCoe Idealize.SL.Sem
namespace Cert.CombineEquation
open Cert.Kernel5Ideal Cert.Kernel5Ideal.Gen Cert.Combine
open Cert.Kernel5Ideal.Combine (sumAt final0 final1)
open Cert.Reference5Ideal.Combine (sums prompt sample sums_at prompt_at sample_at)

variable (m : (ℓ : Loc nD τ sig) → Buf (Elt Ideal) ℓ) (ρ : Dev nD → PrngReg)

/-- The reference's sums on the kernel's arguments. -/
def plain (c : Dev nD) : FVec Ideal S17408x1024 .f32 :=
  sums (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The first call reads the arguments as launched, -/
theorem first_at (c : Dev nD) (i : Fin 17408) (d : Fin 1024) : plain m c (ix2 i d) = sumAt (V0 m ρ) c i d := sums_at _ _ _ _ _ i d

/-- and the second does too, for the first leaves them. -/
theorem second_at (c : Dev nD) (i : Fin 17408) (d : Fin 1024) : plain m c (ix2 i d) = sumAt (V1 m ρ) c i d := by
  have h (a : Ref sig .tc) (ha : a ∈ argRefs) : V1 m ρ c a = m ((c.tc : Thread nD τ).loc a) := W1_args m ρ c a ha
  unfold sumAt
  rw [h main_arg0 (by decide), h main_arg1 (by decide), h main_arg2 (by decide), h main_arg3 (by decide), h main_arg4 (by decide)]
  exact sums_at _ _ _ _ _ i d

/-- The reference's first result is the first call's array. -/
theorem equation0 (c : Dev nD) : prompt (plain m c) = (dat0 (V0 m ρ) c).arrAt 5 cfg0.N := by
  refine Eq.trans ?_ (final0 (V0 m ρ) c).symm
  funext i
  exact (congrArg _ (eq_ix2 i)).trans ((prompt_at _ (i 0) (i 1)).trans (first_at m ρ c _ _))

/-- The reference's second result is the second call's array. -/
theorem equation1 (c : Dev nD) : sample (plain m c) = (dat1 (V1 m ρ) c).arrAt 5 cfg1.N := by
  refine Eq.trans ?_ (final1 (V1 m ρ) c).symm
  funext i
  exact (congrArg _ (eq_ix2 i)).trans ((sample_at _ (i 0) (i 1)).trans (second_at m ρ c _ _))

end Cert.CombineEquation

end
-- ==== Proof.lean ====
/- The claims of this certificate: the kernel and its idealised copy run and leave their arguments, the copy keeps every
   operation, and its result is the reference's over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.AttnArray
public import proofs.«01_k».proof.Proof.AttnReference
public import proofs.«01_k».proof.Proof.AttnEquation
public import proofs.«01_k».proof.Proof.AttnFinite
public import proofs.«01_k».proof.Proof.ExpertsPre
public import proofs.«01_k».proof.Proof.ExpertsTables
public import proofs.«01_k».proof.Proof.ExpertsArray
public import proofs.«01_k».proof.Proof.ExpertsReference
public import proofs.«01_k».proof.Proof.ExpertsEquation
public import proofs.«01_k».proof.Proof.FfnArray
public import proofs.«01_k».proof.Proof.FfnReference
public import proofs.«01_k».proof.Proof.FfnEquation
public import proofs.«01_k».proof.Proof.InArray
public import proofs.«01_k».proof.Proof.InReference
public import proofs.«01_k».proof.Proof.InEquation
public import proofs.«01_k».proof.Proof.CombineArray
public import proofs.«01_k».proof.Proof.CombineRun
public import proofs.«01_k».proof.Proof.CombineReference
public import proofs.«01_k».proof.Proof.CombineEquation
public import Idealize.ShloMosaic.Lib.Bf16Pair
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

instance instKernel : Cert.Kernel.Facts := Cert.Kernel.Gen.facts
instance instKernelIdeal : Cert.KernelIdeal.Facts := Cert.KernelIdeal.Gen.facts
instance instReferenceIdeal : Cert.ReferenceIdeal.Facts := Cert.ReferenceIdeal.Gen.facts
instance instKernel2 : Cert.Kernel2.Facts := Cert.Kernel2.Gen.facts
instance instKernel2Ideal : Cert.Kernel2Ideal.Facts := Cert.Kernel2Ideal.Gen.facts
instance instReference2Ideal : Cert.Reference2Ideal.Facts := Cert.Reference2Ideal.Gen.facts
instance instKernel3 : Cert.Kernel3.Facts := Cert.Kernel3.Gen.facts
instance instKernel3Ideal : Cert.Kernel3Ideal.Facts := Cert.Kernel3Ideal.Gen.facts
instance instReference3Ideal : Cert.Reference3Ideal.Facts := Cert.Reference3Ideal.Gen.facts
instance instKernel4 : Cert.Kernel4.Facts := Cert.Kernel4.Gen.facts
instance instKernel4Ideal : Cert.Kernel4Ideal.Facts := Cert.Kernel4Ideal.Gen.facts
instance instReference4Ideal : Cert.Reference4Ideal.Facts := Cert.Reference4Ideal.Gen.facts
instance instKernel5 : Cert.Kernel5.Facts := Cert.Kernel5.Gen.facts
instance instKernel5Ideal : Cert.Kernel5Ideal.Facts := Cert.Kernel5Ideal.Gen.facts
instance instReference5Ideal : Cert.Reference5Ideal.Facts := Cert.Reference5Ideal.Gen.facts
instance instPre2 : Cert.Pre_experts_named.Facts := Cert.Pre_experts_named.facts
instance instPre : Cert.Pre_finite_logits.Facts := Cert.Pre_finite_logits.facts

/-- The idealised kernel's result is the reference's. -/
theorem algebraic : Cert.algebraic_KernelIdeal_ReferenceIdeal_pre_finite_logits := by
  pair_intro
  · run_from Cert.KernelIdeal.Gen.run_main m g
  · run_from Cert.ReferenceIdeal.Value.run m' g'
    obtain ⟨h0, h1, h2, h3⟩ := hagree c
    obtain ⟨fq, fk, fa⟩ := Cert.Pre_finite_logits.finite _ _ _ _ (hpre c)
    refine (Cert.ReferenceIdeal.Attn.res_eq m' c).trans ?_
    rw [h0, h1, h2, h3]
    refine Eq.trans ?_ (Cert.KernelIdeal.Attn.final m c).symm
    funext i
    exact (congrArg _ (eq_ix2 i)).trans (Cert.AttnEquation.equation _ _ _ _ fq fk fa (i 0) (i 1)).symm

/-- The reference runs and leaves its arguments. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is minus infinity. -/
theorem preserves : Cert.preserves_Kernel_KernelIdeal :=
  IdealRules.named_const.statement _ _ _ _ _ rfl

/-- The expert kernel runs and leaves its arguments. -/
theorem frame_kernel2 : Cert.quiescent_Kernel2 := fun m ρ h =>
  have n := Cert.Pre_experts_named.named _ _ _ _ _ _ _ _ (h 0)
  Cert.Kernel2.Gen.frame m ρ (Cert.Kernel2.Experts.ok m n.1) (Cert.Kernel2.Experts.hyps m n.2 _)

/-- The idealised expert kernel runs and leaves its arguments. -/
theorem frame_kernel2Ideal : Cert.quiescent_Kernel2Ideal := fun m ρ h =>
  have n := Cert.Pre_experts_named.named _ _ _ _ _ _ _ _ (h 0)
  Cert.Kernel2Ideal.Gen.frame m ρ (Cert.Kernel2Ideal.Experts.ok m n.1) (Cert.Kernel2Ideal.Experts.hyps m n.2 _)

/-- The experts' reference runs and leaves its arguments. -/
theorem frame_reference2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

/-- The words of two halves are the two rows. -/
theorem preserves2 : Cert.preserves_Kernel2_Kernel2Ideal :=
  ⟨IdealRules.bf16_pair.statement _ _, IdealRules.bf16_pack.statement _⟩

/-- The idealised expert kernel's results are the reference's. -/
theorem algebraic2 : Cert.algebraic_Kernel2Ideal_Reference2Ideal := by
  intro m g m' g' hpre hagree
  have n := Cert.Pre_experts_named.named _ _ _ _ _ _ _ _ (hpre 0)
  have hO := Cert.Kernel2Ideal.Experts.ok m n.1
  have hH := Cert.Kernel2Ideal.Experts.hyps m n.2 hO
  refine ⟨fun c => (Cert.Kernel2Ideal.Gen.dats m hO hH 0 c).arrAt 6 (Cert.Kernel2Ideal.Gen.cfgM m hO).N,
    fun c => (Cert.Kernel2Ideal.Gen.dats m hO hH 0 c).arrAt 7 (Cert.Kernel2Ideal.Gen.cfgM m hO).N, ?_, ?_⟩
  · exact (θ_run Cert.Kernel2Ideal.defs _ _).mono (fun r h c => ⟨(h.1 c).1 6, (h.1 c).1 7, h.2 c⟩)
      (θ_run_and (Cert.Kernel2Ideal.Gen.run_main m g hO hH) (Cert.Kernel2Ideal.Gen.unchanged m g hO hH))
  · refine (θ_run Cert.Reference2Ideal.defs _ _).mono (fun r h c => ⟨(h c).1.trans ?_, (h c).2.1.trans ?_, (h c).2.2⟩)
      (Cert.Reference2Ideal.Value.run m' g')
    · obtain ⟨h0, h1, h2, h3, h4, h5, h6, h7⟩ := hagree c
      refine (Cert.Reference2Ideal.Experts.res_eq0 m' c).trans ?_
      rw [h0, h1, h2, h3, h4, h5, h6, h7]
      exact Cert.ExpertsEquation.equation0 m hO hH n.1 c
    · obtain ⟨h0, h1, h2, h3, h4, h5, h6, h7⟩ := hagree c
      refine (Cert.Reference2Ideal.Experts.res_eq1 m' c).trans ?_
      rw [h0, h1, h2, h3, h4, h5, h6, h7]
      exact Cert.ExpertsEquation.equation1 m hO hH n.1 c

/-- The output projection and feed-forward's reference runs and leaves its arguments. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The output projection and feed-forward's copy keeps every operation. -/
theorem preserves3 : Cert.preserves_Kernel3_Kernel3Ideal := trivial

/-- The idealised output projection and feed-forward kernel's result is the reference's. -/
theorem algebraic3 : Cert.algebraic_Kernel3Ideal_Reference3Ideal := by
  intro m g m' g' _ hagree
  refine ⟨fun c => (Cert.Kernel3Ideal.Gen.dats m 0 c).arrAt 15 Cert.Kernel3Ideal.cfg0.N, ?_, ?_⟩
  · exact (θ_run Cert.Kernel3Ideal.defs _ _).mono (fun r h c => ⟨(h.1 c).1 15, h.2 c⟩)
      (θ_run_and (Cert.Kernel3Ideal.Gen.run_main m g) (Cert.Kernel3Ideal.Gen.unchanged m g))
  · refine (θ_run Cert.Reference3Ideal.defs _ _).mono (fun r h c => ⟨(h c).1.trans ?_, (h c).2⟩)
      (Cert.Reference3Ideal.Value.run m' g')
    obtain ⟨h0, h1, h2, h3, h4, h5, h6, h7, h8, h9, h10, h11, h12, h13, h14⟩ := hagree c
    refine (Cert.Reference3Ideal.Ffn.res_eq m' c).trans ?_
    rw [h0, h1, h2, h3, h4, h5, h6, h7, h8, h9, h10, h11, h12, h13, h14]
    exact Cert.FfnEquation.equation m c

/-- The input projection's reference runs and leaves its arguments. -/
theorem frame_reference4 : Cert.quiescent_Reference4Ideal := fun m g _ =>
  (θ_run Cert.Reference4Ideal.defs _ _).mono (fun r h => ⟨fun c => (h c).2.2.2.2.2.2.2.2, sem_eq_zero_of_no_sems (by decide) r.2⟩)
    (Cert.Reference4Ideal.Value.run (F := Ideal) m g)

/-- The input projection's copy keeps every operation. -/
theorem preserves4 : Cert.preserves_Kernel4_Kernel4Ideal := trivial

set_option maxHeartbeats 4000000 in
/-- The idealised input projection's results are the reference's. -/
theorem algebraic4 : Cert.algebraic_Kernel4Ideal_Reference4Ideal := by
  intro m g m' g' _ hagree
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N, ?_, ?_⟩
  · exact (θ_run Cert.Kernel4Ideal.defs _ _).mono (fun r h c => ⟨(h.1 c).1 8, (h.1 c).1 9, (h.1 c).1 10, (h.1 c).1 11, (h.1 c).1 12, (h.1 c).1 13, (h.1 c).1 14, (h.1 c).1 15, h.2 c⟩)
      (θ_run_and (Cert.Kernel4Ideal.Gen.run_main m g) (Cert.Kernel4Ideal.Gen.unchanged m g))
  · refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_,
        (h c).2.2.2.2.2.2.2.2⟩)
      (Cert.Reference4Ideal.Value.run m' g')
    · obtain ⟨h0, h1, h2, h3, h4, h5, h6, h7⟩ := hagree c
      refine (Cert.Reference4Ideal.Inproj.res_eq0 m' c).trans ?_
      unfold Cert.Reference4Ideal.Inproj.full
      rw [h0, h1, h2, h3, h4]
      exact Cert.InEquation.equation0 m c
    · obtain ⟨h0, h1, h2, h3, h4, h5, h6, h7⟩ := hagree c
      refine (Cert.Reference4Ideal.Inproj.res_eq1 m' c).trans ?_
      unfold Cert.Reference4Ideal.Inproj.full
      rw [h0, h1, h2, h3, h5]
      exact Cert.InEquation.equation1 m c
    · obtain ⟨h0, h1, h2, h3, h4, h5, h6, h7⟩ := hagree c
      rw [h0, h1, h2, h3]
      exact Cert.InEquation.equation2 m c
    · obtain ⟨h0, h1, h2, h3, h4, h5, h6, h7⟩ := hagree c
      rw [h0, h1, h2, h3]
      exact Cert.InEquation.equation3 m c
    · obtain ⟨h0, h1, h2, h3, h4, h5, h6, h7⟩ := hagree c
      rw [h0, h1, h2, h3]
      exact Cert.InEquation.equation4 m c
    · obtain ⟨h0, h1, h2, h3, h4, h5, h6, h7⟩ := hagree c
      refine (Cert.Reference4Ideal.Inproj.res_eq5 m' c).trans ?_
      unfold Cert.Reference4Ideal.Inproj.full
      rw [h0, h1, h2, h3, h6]
      exact Cert.InEquation.equation5 m c
    · obtain ⟨h0, h1, h2, h3, h4, h5, h6, h7⟩ := hagree c
      refine (Cert.Reference4Ideal.Inproj.res_eq6 m' c).trans ?_
      unfold Cert.Reference4Ideal.Inproj.full
      rw [h0, h1, h2, h3, h7]
      exact Cert.InEquation.equation6 m c
    · obtain ⟨h0, h1, h2, h3, h4, h5, h6, h7⟩ := hagree c
      rw [h0, h1, h2, h3]
      exact Cert.InEquation.equation7 m c

/-- The final sum's reference runs and leaves its arguments. -/
theorem frame_reference5 : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

/-- The final sum's copy keeps every operation. -/
theorem preserves5 : Cert.preserves_Kernel5_Kernel5Ideal := trivial

set_option maxHeartbeats 1000000 in
/-- The idealised final sum's results are the reference's. -/
theorem algebraic5 : Cert.algebraic_Kernel5Ideal_Reference5Ideal := by
  intro m g m' g' _ hagree
  refine ⟨fun c => (Cert.Kernel5Ideal.Gen.dat0 (Cert.Kernel5Ideal.Gen.V0 m g) c).arrAt 5 Cert.Kernel5Ideal.cfg0.N,
    fun c => (Cert.Kernel5Ideal.Gen.dat1 (Cert.Kernel5Ideal.Gen.V1 m g) c).arrAt 5 Cert.Kernel5Ideal.cfg1.N, ?_, ?_⟩
  · exact (θ_run Cert.Kernel5Ideal.defs _ _).mono (fun r h c => ⟨(h.1 c).1, (h.1 c).2, h.2 c⟩)
      (θ_run_and (Cert.Kernel5Ideal.Combine.results m g) (Cert.Kernel5Ideal.Gen.unchanged m g))
  · refine (θ_run Cert.Reference5Ideal.defs _ _).mono (fun r h c => ⟨(h c).1.trans ?_, (h c).2.1.trans ?_, (h c).2.2⟩)
      (Cert.Reference5Ideal.Value.run m' g')
    all_goals
      obtain ⟨h0, h1, h2, h3, h4⟩ := hagree c
      rw [h0, h1, h2, h3, h4]
    · exact Cert.CombineEquation.equation0 m g c
    · exact Cert.CombineEquation.equation1 m g c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_logits.facts,
  Cert.Pre_experts_named.facts,
  fun m ρ _ => Cert.Kernel.Gen.frame m ρ,
  fun m ρ _ => Cert.KernelIdeal.Gen.frame m ρ,
  fun m ρ _ => Cert.KernelIdeal.Gen.frame m ρ,
  frame_reference,
  fun m g _ => frame_reference m g trivial,
  frame_kernel2,
  frame_kernel2Ideal,
  frame_reference2,
  fun m g _ => frame_reference2 m g trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  preserves,
  algebraic,
  preserves2,
  algebraic2,
  preserves3,
  algebraic3,
  preserves4,
  algebraic4,
  preserves5,
  algebraic5⟩

end Cert.Proof

end
